-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "step" .f32 0x3F99999A#32 ((6 / 5 : ℝ) : EReal)

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v315) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal_pre_domain (hKernelIdeal := hKernelIdeal) (hReferenceIdeal := hReferenceIdeal) (hPre_domain := hPre_domain)
-- ==== Pre_domain.lean ====
abbrev S2x128x56x56 : Shape := ⟨4, ![2, 128, 56, 56]⟩
abbrev S128x128 : Shape := ⟨2, ![128, 128]⟩
abbrev S128 : Shape := ⟨1, ![128]⟩
abbrev S_ : Shape := ⟨0, ![]⟩

class Facts : Prop where
  bcast_S_S2x128x56x56 : S_.BroadcastsInDim S2x128x56x56 (![] : Fin 0 → Fin S2x128x56x56.rank)
  bcast_S_S128x128 : S_.BroadcastsInDim S128x128 (![] : Fin 0 → Fin S128x128.rank)
  bcast_S_S128 : S_.BroadcastsInDim S128 (![] : Fin 0 → Fin S128.rank)

variable [Facts]

def fn {F : FTy → Type} [FloatOps F] (main_arg0 : FVec F S2x128x56x56 .f32) (main_arg1 : FVec F S128x128 .f32) (main_arg2 : FVec F S128x128 .f32) (main_arg3 : FVec F S128x128 .f32) (main_arg4 : FVec F S128x128 .f32) (main_arg5 : FVec F S128x128 .f32) (main_arg6 : FVec F S128 .f32) (main_arg7 : FVec F S128 .f32) : IVec S2x128x56x56 1 × IVec S128x128 1 × IVec S128x128 1 × IVec S128 1 × IVec S128 1 :=
  let main_cst : FVec F S_ .f32 := constant S_ .f32 0x00000000#32
  let main_v0 : FVec F S2x128x56x56 .f32 := broadcastInDim S2x128x56x56 ![] bcast_S_S2x128x56x56 main_cst
  let main_v1 : IVec S2x128x56x56 1 := cmpf .oge main_arg0 main_v0
  let main_cst_0 : FVec F S_ .f32 := constant S_ .f32 0x00000000#32
  let main_v2 : FVec F S128x128 .f32 := broadcastInDim S128x128 ![] bcast_S_S128x128 main_cst_0
  let main_v3 : IVec S128x128 1 := cmpf .une main_arg2 main_v2
  let main_cst_1 : FVec F S_ .f32 := constant S_ .f32 0x00000000#32
  let main_v4 : FVec F S128x128 .f32 := broadcastInDim S128x128 ![] bcast_S_S128x128 main_cst_1
  let main_v5 : IVec S128x128 1 := cmpf .une main_arg3 main_v4
  let main_v6 : IVec S128x128 1 := ori main_v3 main_v5
  let main_cst_2 : FVec F S_ .f32 := constant S_ .f32 0x00000000#32
  let main_v7 : FVec F S128x128 .f32 := broadcastInDim S128x128 ![] bcast_S_S128x128 main_cst_2
  let main_v8 : IVec S128x128 1 := cmpf .ogt main_arg5 main_v7
  let main_cst_3 : FVec F S_ .f32 := constant S_ .f32 0x00000000#32
  let main_v9 : FVec F S128 .f32 := broadcastInDim S128 ![] bcast_S_S128 main_cst_3
  let main_v10 : IVec S128 1 := cmpf .oge main_arg6 main_v9
  let main_cst_4 : FVec F S_ .f32 := constant S_ .f32 0x00000000#32
  let main_v11 : FVec F S128 .f32 := broadcastInDim S128 ![] bcast_S_S128 main_cst_4
  let main_v12 : IVec S128 1 := cmpf .oge main_arg7 main_v11
  (main_v1, main_v6, main_v8, main_v10, main_v12)
-- ==== Kernel.lean ====
abbrev S2x128x56x56 : Shape := ⟨4, ![2, 128, 56, 56]⟩
abbrev S128x128 : Shape := ⟨2, ![128, 128]⟩
abbrev S128 : Shape := ⟨1, ![128]⟩
abbrev S_ : Shape := ⟨0, ![]⟩
abbrev S2x128x64x64 : Shape := ⟨4, ![2, 128, 64, 64]⟩
abbrev S2x128x1x4096 : Shape := ⟨4, ![2, 128, 1, 4096]⟩
abbrev S128x1x128 : Shape := ⟨3, ![128, 1, 128]⟩
abbrev S128x128x1 : Shape := ⟨3, ![128, 128, 1]⟩
abbrev S128x1x1 : Shape := ⟨3, ![128, 1, 1]⟩
abbrev S2x128x1x3584 : Shape := ⟨4, ![2, 128, 1, 3584]⟩
abbrev S2x128x56x64 : Shape := ⟨4, ![2, 128, 56, 64]⟩
abbrev S2x1x1x4096 : Shape := ⟨4, ![2, 1, 1, 4096]⟩
abbrev S1x1x128 : Shape := ⟨3, ![1, 1, 128]⟩
abbrev S1x128x1 : Shape := ⟨3, ![1, 128, 1]⟩
abbrev S1x1x1 : Shape := ⟨3, ![1, 1, 1]⟩
abbrev S2x1x1x3584 : Shape := ⟨4, ![2, 1, 1, 3584]⟩
abbrev S36x1 : Shape := ⟨2, ![36, 1]⟩
abbrev S1x128 : Shape := ⟨2, ![1, 128]⟩
abbrev S36x128 : Shape := ⟨2, ![36, 128]⟩
abbrev S128x1 : Shape := ⟨2, ![128, 1]⟩
abbrev S1x1x1x4096 : Shape := ⟨4, ![1, 1, 1, 4096]⟩
abbrev S1x4096 : Shape := ⟨2, ![1, 4096]⟩
abbrev S128x4096 : Shape := ⟨2, ![128, 4096]⟩
abbrev S36x4096 : Shape := ⟨2, ![36, 4096]⟩
abbrev S1x3584 : Shape := ⟨2, ![1, 3584]⟩
abbrev S1x1x1x3584 : Shape := ⟨4, ![1, 1, 1, 3584]⟩

abbrev nBuf : Space → Nat
  | .hbm => 22
  | .vmem => 18
  | .smem => 0
  | _ => 0

abbrev bufTy : (tb : Table) → Fin (tcTables nBuf tb) → BufTy
  | .hbm, ⟨0, _⟩ => ⟨S2x128x56x56, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S_, .i32⟩
  | .hbm, ⟨9, _⟩ => ⟨S_, .f32⟩
  | .hbm, ⟨10, _⟩ => ⟨S2x128x64x64, .f32⟩
  | .hbm, ⟨11, _⟩ => ⟨S2x128x1x4096, .f32⟩
  | .hbm, ⟨12, _⟩ => ⟨S128x1x128, .f32⟩
  | .hbm, ⟨13, _⟩ => ⟨S128x1x128, .f32⟩
  | .hbm, ⟨14, _⟩ => ⟨S128x1x128, .f32⟩
  | .hbm, ⟨15, _⟩ => ⟨S128x1x128, .f32⟩
  | .hbm, ⟨16, _⟩ => ⟨S128x128x1, .f32⟩
  | .hbm, ⟨17, _⟩ => ⟨S128x1x1, .f32⟩
  | .hbm, ⟨18, _⟩ => ⟨S128x1x1, .f32⟩
  | .hbm, ⟨19, _⟩ => ⟨S2x128x1x3584, .f32⟩
  | .hbm, ⟨20, _⟩ => ⟨S2x128x56x64, .f32⟩
  | .hbm, ⟨21, _⟩ => ⟨S2x128x56x56, .f32⟩
  | .local _ .vmem, ⟨0, _⟩ => ⟨S2x1x1x4096, .f32⟩
  | .local _ .vmem, ⟨1, _⟩ => ⟨S2x1x1x4096, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x128x1, .f32⟩
  | .local _ .vmem, ⟨11, _⟩ => ⟨S1x128x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S2x1x1x3584, .f32⟩
  | .local _ .vmem, ⟨17, _⟩ => ⟨S2x1x1x3584, .f32⟩
  | _, _ => ⟨S2x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_call0_v0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x1x3584 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "step" => some ((6 / 5 : ℝ) : EReal)
  | _ => none
-- ==== ReferenceIdeal.lean ====
abbrev S2x128x56x56 : Shape := ⟨4, ![2, 128, 56, 56]⟩
abbrev S128x128 : Shape := ⟨2, ![128, 128]⟩
abbrev S128 : Shape := ⟨1, ![128]⟩
abbrev S_ : Shape := ⟨0, ![]⟩
abbrev S5 : Shape := ⟨1, ![5]⟩
abbrev S1 : Shape := ⟨1, ![1]⟩
abbrev S6 : Shape := ⟨1, ![6]⟩
abbrev S6x6 : Shape := ⟨2, ![6, 6]⟩
abbrev S128x128x1x1 : Shape := ⟨4, ![128, 128, 1, 1]⟩
abbrev S1x1x6x6 : Shape := ⟨4, ![1, 1, 6, 6]⟩
abbrev S128x128x6x6 : Shape := ⟨4, ![128, 128, 6, 6]⟩
abbrev S2x128x1x56x56 : Shape := ⟨5, ![2, 128, 1, 56, 56]⟩
abbrev S1x128x128x1x1 : Shape := ⟨5, ![1, 128, 128, 1, 1]⟩
abbrev S2x128x128x56x56 : Shape := ⟨5, ![2, 128, 128, 56, 56]⟩
abbrev S2x128x128x62x62 : Shape := ⟨5, ![2, 128, 128, 62, 62]⟩
abbrev S2x128x128x57x57 : Shape := ⟨5, ![2, 128, 128, 57, 57]⟩
abbrev S1x128x1x1 : Shape := ⟨4, ![1, 128, 1, 1]⟩

abbrev nBuf : Space → Nat
  | .hbm => 352
  | .vmem => 0
  | .smem => 0
  | _ => 0

abbrev hbmTy0_0 (i : Nat) : BufTy := match i % 128 with
  | 0 => ⟨S2x128x56x56, .f32⟩
  | 1 => ⟨S128x128, .f32⟩
  | 2 => ⟨S128x128, .f32⟩
  | 3 => ⟨S128x128, .f32⟩
  | 4 => ⟨S128x128, .f32⟩
  | 5 => ⟨S128x128, .f32⟩
  | 6 => ⟨S128, .f32⟩
  | 7 => ⟨S128, .f32⟩
  | 8 => ⟨S_, .i32⟩
  | 9 => ⟨S_, .i32⟩
  | 10 => ⟨S_, .f32⟩
  | 11 => ⟨S_, .f32⟩
  | 12 => ⟨S_, .f32⟩
  | 13 => ⟨S_, .f32⟩
  | 14 => ⟨S_, .f32⟩
  | 15 => ⟨S5, .f32⟩
  | 16 => ⟨S_, .f32⟩
  | 17 => ⟨S5, .f32⟩
  | 18 => ⟨S5, .f32⟩
  | 19 => ⟨S1, .f32⟩
  | 20 => ⟨S_, .f32⟩
  | 21 => ⟨S5, .f32⟩
  | 22 => ⟨S5, .f32⟩
  | 23 => ⟨S5, .f32⟩
  | 24 => ⟨S5, .f32⟩
  | 25 => ⟨S1, .f32⟩
  | 26 => ⟨S5, .f32⟩
  | 27 => ⟨S5, .f32⟩
  | 28 => ⟨S5, .f32⟩
  | 29 => ⟨S1, .f32⟩
  | 30 => ⟨S6, .f32⟩
  | 31 => ⟨S6x6, .f32⟩
  | 32 => ⟨S6x6, .f32⟩
  | 33 => ⟨S128x128, .f32⟩
  | 34 => ⟨S128x128x1x1, .f32⟩
  | 35 => ⟨S128x128, .f32⟩
  | 36 => ⟨S128x128x1x1, .f32⟩
  | 37 => ⟨S1x1x6x6, .f32⟩
  | 38 => ⟨S128x128x6x6, .f32⟩
  | 39 => ⟨S128x128x6x6, .f32⟩
  | 40 => ⟨S128x128x6x6, .f32⟩
  | 41 => ⟨S1x1x6x6, .f32⟩
  | 42 => ⟨S128x128x6x6, .f32⟩
  | 43 => ⟨S128x128x6x6, .f32⟩
  | 44 => ⟨S128x128x6x6, .f32⟩
  | 45 => ⟨S128x128x6x6, .f32⟩
  | 46 => ⟨S6x6, .f32⟩
  | 47 => ⟨S1x1x6x6, .f32⟩
  | 48 => ⟨S128x128x6x6, .f32⟩
  | 49 => ⟨S128x128x6x6, .f32⟩
  | 50 => ⟨S128x128x6x6, .f32⟩
  | 51 => ⟨S1x1x6x6, .f32⟩
  | 52 => ⟨S128x128x6x6, .f32⟩
  | 53 => ⟨S128x128x6x6, .f32⟩
  | 54 => ⟨S128x128x6x6, .f32⟩
  | 55 => ⟨S128x128x6x6, .f32⟩
  | 56 => ⟨S128x128, .f32⟩
  | 57 => ⟨S128x128x1x1, .f32⟩
  | 58 => ⟨S128x128, .f32⟩
  | 59 => ⟨S128x128x1x1, .f32⟩
  | 60 => ⟨S_, .f32⟩
  | 61 => ⟨S128x128, .f32⟩
  | 62 => ⟨S128x128, .f32⟩
  | 63 => ⟨S128x128, .f32⟩
  | 64 => ⟨S128x128, .f32⟩
  | 65 => ⟨S128x128x1x1, .f32⟩
  | 66 => ⟨S128x128x6x6, .f32⟩
  | 67 => ⟨S128x128x6x6, .f32⟩
  | 68 => ⟨S128x128x6x6, .f32⟩
  | 69 => ⟨S128x128x6x6, .f32⟩
  | 70 => ⟨S128x128x6x6, .f32⟩
  | 71 => ⟨S128x128x6x6, .f32⟩
  | 72 => ⟨S128x128x6x6, .f32⟩
  | 73 => ⟨S_, .f32⟩
  | 74 => ⟨S128x128x6x6, .f32⟩
  | 75 => ⟨S128x128x6x6, .f32⟩
  | 76 => ⟨S128x128x6x6, .f32⟩
  | 77 => ⟨S128x128x6x6, .f32⟩
  | 78 => ⟨S128x128x6x6, .f32⟩
  | 79 => ⟨S2x128x1x56x56, .f32⟩
  | 80 => ⟨S1x128x128x1x1, .f32⟩
  | 81 => ⟨S2x128x128x56x56, .f32⟩
  | 82 => ⟨S2x128x128x56x56, .f32⟩
  | 83 => ⟨S2x128x128x56x56, .f32⟩
  | 84 => ⟨S_, .i32⟩
  | 85 => ⟨S_, .f32⟩
  | 86 => ⟨S2x128x128x62x62, .f32⟩
  | 87 => ⟨S2x128x128x57x57, .f32⟩
  | 88 => ⟨S128x128x1x1, .f32⟩
  | 89 => ⟨S128x128, .f32⟩
  | 90 => ⟨S1x128x128x1x1, .f32⟩
  | 91 => ⟨S2x128x128x57x57, .f32⟩
  | 92 => ⟨S2x128x128x57x57, .f32⟩
  | 93 => ⟨S_, .f32⟩
  | 94 => ⟨S2x128x128x57x57, .f32⟩
  | 95 => ⟨S2x128x128x57x57, .f32⟩
  | 96 => ⟨S2x128x128x57x57, .f32⟩
  | 97 => ⟨S128x128x1x1, .f32⟩
  | 98 => ⟨S128x128, .f32⟩
  | 99 => ⟨S1x128x128x1x1, .f32⟩
  | 100 => ⟨S2x128x128x57x57, .f32⟩
  | 101 => ⟨S2x128x128x57x57, .f32⟩
  | 102 => ⟨S2x128x128x57x57, .f32⟩
  | 103 => ⟨S2x128x128x57x57, .f32⟩
  | 104 => ⟨S128x128x1x1, .f32⟩
  | 105 => ⟨S128x128, .f32⟩
  | 106 => ⟨S1x128x128x1x1, .f32⟩
  | 107 => ⟨S2x128x128x57x57, .f32⟩
  | 108 => ⟨S2x128x128x57x57, .f32⟩
  | 109 => ⟨S2x128x128x57x57, .f32⟩
  | 110 => ⟨S2x128x128x57x57, .f32⟩
  | 111 => ⟨S128x128x1x1, .f32⟩
  | 112 => ⟨S128x128, .f32⟩
  | 113 => ⟨S1x128x128x1x1, .f32⟩
  | 114 => ⟨S2x128x128x57x57, .f32⟩
  | 115 => ⟨S2x128x128x57x57, .f32⟩
  | 116 => ⟨S2x128x128x57x57, .f32⟩
  | 117 => ⟨S2x128x128x57x57, .f32⟩
  | 118 => ⟨S128x128x1x1, .f32⟩
  | 119 => ⟨S128x128, .f32⟩
  | 120 => ⟨S1x128x128x1x1, .f32⟩
  | 121 => ⟨S2x128x128x57x57, .f32⟩
  | 122 => ⟨S2x128x128x57x57, .f32⟩
  | 123 => ⟨S2x128x128x57x57, .f32⟩
  | 124 => ⟨S2x128x128x57x57, .f32⟩
  | 125 => ⟨S128x128x1x1, .f32⟩
  | 126 => ⟨S128x128, .f32⟩
  | 127 => ⟨S1x128x128x1x1, .f32⟩
  | _ => ⟨S2x128x56x56, .f32⟩

abbrev hbmTy0_1 (i : Nat) : BufTy := match i % 128 with
  | 0 => ⟨S2x128x128x57x57, .f32⟩
  | 1 => ⟨S2x128x128x57x57, .f32⟩
  | 2 => ⟨S2x128x128x57x57, .f32⟩
  | 3 => ⟨S2x128x128x57x57, .f32⟩
  | 4 => ⟨S128x128x1x1, .f32⟩
  | 5 => ⟨S128x128, .f32⟩
  | 6 => ⟨S1x128x128x1x1, .f32⟩
  | 7 => ⟨S2x128x128x57x57, .f32⟩
  | 8 => ⟨S2x128x128x57x57, .f32⟩
  | 9 => ⟨S2x128x128x57x57, .f32⟩
  | 10 => ⟨S2x128x128x57x57, .f32⟩
  | 11 => ⟨S128x128x1x1, .f32⟩
  | 12 => ⟨S128x128, .f32⟩
  | 13 => ⟨S1x128x128x1x1, .f32⟩
  | 14 => ⟨S2x128x128x57x57, .f32⟩
  | 15 => ⟨S2x128x128x57x57, .f32⟩
  | 16 => ⟨S2x128x128x57x57, .f32⟩
  | 17 => ⟨S2x128x128x57x57, .f32⟩
  | 18 => ⟨S128x128x1x1, .f32⟩
  | 19 => ⟨S128x128, .f32⟩
  | 20 => ⟨S1x128x128x1x1, .f32⟩
  | 21 => ⟨S2x128x128x57x57, .f32⟩
  | 22 => ⟨S2x128x128x57x57, .f32⟩
  | 23 => ⟨S2x128x128x57x57, .f32⟩
  | 24 => ⟨S2x128x128x57x57, .f32⟩
  | 25 => ⟨S128x128x1x1, .f32⟩
  | 26 => ⟨S128x128, .f32⟩
  | 27 => ⟨S1x128x128x1x1, .f32⟩
  | 28 => ⟨S2x128x128x57x57, .f32⟩
  | 29 => ⟨S2x128x128x57x57, .f32⟩
  | 30 => ⟨S2x128x128x57x57, .f32⟩
  | 31 => ⟨S2x128x128x57x57, .f32⟩
  | 32 => ⟨S128x128x1x1, .f32⟩
  | 33 => ⟨S128x128, .f32⟩
  | 34 => ⟨S1x128x128x1x1, .f32⟩
  | 35 => ⟨S2x128x128x57x57, .f32⟩
  | 36 => ⟨S2x128x128x57x57, .f32⟩
  | 37 => ⟨S2x128x128x57x57, .f32⟩
  | 38 => ⟨S2x128x128x57x57, .f32⟩
  | 39 => ⟨S128x128x1x1, .f32⟩
  | 40 => ⟨S128x128, .f32⟩
  | 41 => ⟨S1x128x128x1x1, .f32⟩
  | 42 => ⟨S2x128x128x57x57, .f32⟩
  | 43 => ⟨S2x128x128x57x57, .f32⟩
  | 44 => ⟨S2x128x128x57x57, .f32⟩
  | 45 => ⟨S2x128x128x57x57, .f32⟩
  | 46 => ⟨S128x128x1x1, .f32⟩
  | 47 => ⟨S128x128, .f32⟩
  | 48 => ⟨S1x128x128x1x1, .f32⟩
  | 49 => ⟨S2x128x128x57x57, .f32⟩
  | 50 => ⟨S2x128x128x57x57, .f32⟩
  | 51 => ⟨S2x128x128x57x57, .f32⟩
  | 52 => ⟨S2x128x128x57x57, .f32⟩
  | 53 => ⟨S128x128x1x1, .f32⟩
  | 54 => ⟨S128x128, .f32⟩
  | 55 => ⟨S1x128x128x1x1, .f32⟩
  | 56 => ⟨S2x128x128x57x57, .f32⟩
  | 57 => ⟨S2x128x128x57x57, .f32⟩
  | 58 => ⟨S2x128x128x57x57, .f32⟩
  | 59 => ⟨S2x128x128x57x57, .f32⟩
  | 60 => ⟨S128x128x1x1, .f32⟩
  | 61 => ⟨S128x128, .f32⟩
  | 62 => ⟨S1x128x128x1x1, .f32⟩
  | 63 => ⟨S2x128x128x57x57, .f32⟩
  | 64 => ⟨S2x128x128x57x57, .f32⟩
  | 65 => ⟨S2x128x128x57x57, .f32⟩
  | 66 => ⟨S2x128x128x57x57, .f32⟩
  | 67 => ⟨S128x128x1x1, .f32⟩
  | 68 => ⟨S128x128, .f32⟩
  | 69 => ⟨S1x128x128x1x1, .f32⟩
  | 70 => ⟨S2x128x128x57x57, .f32⟩
  | 71 => ⟨S2x128x128x57x57, .f32⟩
  | 72 => ⟨S2x128x128x57x57, .f32⟩
  | 73 => ⟨S2x128x128x57x57, .f32⟩
  | 74 => ⟨S128x128x1x1, .f32⟩
  | 75 => ⟨S128x128, .f32⟩
  | 76 => ⟨S1x128x128x1x1, .f32⟩
  | 77 => ⟨S2x128x128x57x57, .f32⟩
  | 78 => ⟨S2x128x128x57x57, .f32⟩
  | 79 => ⟨S2x128x128x57x57, .f32⟩
  | 80 => ⟨S2x128x128x57x57, .f32⟩
  | 81 => ⟨S128x128x1x1, .f32⟩
  | 82 => ⟨S128x128, .f32⟩
  | 83 => ⟨S1x128x128x1x1, .f32⟩
  | 84 => ⟨S2x128x128x57x57, .f32⟩
  | 85 => ⟨S2x128x128x57x57, .f32⟩
  | 86 => ⟨S2x128x128x57x57, .f32⟩
  | 87 => ⟨S2x128x128x57x57, .f32⟩
  | 88 => ⟨S128x128x1x1, .f32⟩
  | 89 => ⟨S128x128, .f32⟩
  | 90 => ⟨S1x128x128x1x1, .f32⟩
  | 91 => ⟨S2x128x128x57x57, .f32⟩
  | 92 => ⟨S2x128x128x57x57, .f32⟩
  | 93 => ⟨S2x128x128x57x57, .f32⟩
  | 94 => ⟨S2x128x128x57x57, .f32⟩
  | 95 => ⟨S128x128x1x1, .f32⟩
  | 96 => ⟨S128x128, .f32⟩
  | 97 => ⟨S1x128x128x1x1, .f32⟩
  | 98 => ⟨S2x128x128x57x57, .f32⟩
  | 99 => ⟨S2x128x128x57x57, .f32⟩
  | 100 => ⟨S2x128x128x57x57, .f32⟩
  | 101 => ⟨S2x128x128x57x57, .f32⟩
  | 102 => ⟨S128x128x1x1, .f32⟩
  | 103 => ⟨S128x128, .f32⟩
  | 104 => ⟨S1x128x128x1x1, .f32⟩
  | 105 => ⟨S2x128x128x57x57, .f32⟩
  | 106 => ⟨S2x128x128x57x57, .f32⟩
  | 107 => ⟨S2x128x128x57x57, .f32⟩
  | 108 => ⟨S2x128x128x57x57, .f32⟩
  | 109 => ⟨S128x128x1x1, .f32⟩
  | 110 => ⟨S128x128, .f32⟩
  | 111 => ⟨S1x128x128x1x1, .f32⟩
  | 112 => ⟨S2x128x128x57x57, .f32⟩
  | 113 => ⟨S2x128x128x57x57, .f32⟩
  | 114 => ⟨S2x128x128x57x57, .f32⟩
  | 115 => ⟨S2x128x128x57x57, .f32⟩
  | 116 => ⟨S128x128x1x1, .f32⟩
  | 117 => ⟨S128x128, .f32⟩
  | 118 => ⟨S1x128x128x1x1, .f32⟩
  | 119 => ⟨S2x128x128x57x57, .f32⟩
  | 120 => ⟨S2x128x128x57x57, .f32⟩
  | 121 => ⟨S2x128x128x57x57, .f32⟩
  | 122 => ⟨S2x128x128x57x57, .f32⟩
  | 123 => ⟨S128x128x1x1, .f32⟩
  | 124 => ⟨S128x128, .f32⟩
  | 125 => ⟨S1x128x128x1x1, .f32⟩
  | 126 => ⟨S2x128x128x57x57, .f32⟩
  | 127 => ⟨S2x128x128x57x57, .f32⟩
  | _ => ⟨S2x128x56x56, .f32⟩

abbrev hbmTy0_2 (i : Nat) : BufTy := match i % 128 with
  | 0 => ⟨S2x128x128x57x57, .f32⟩
  | 1 => ⟨S2x128x128x57x57, .f32⟩
  | 2 => ⟨S128x128x1x1, .f32⟩
  | 3 => ⟨S128x128, .f32⟩
  | 4 => ⟨S1x128x128x1x1, .f32⟩
  | 5 => ⟨S2x128x128x57x57, .f32⟩
  | 6 => ⟨S2x128x128x57x57, .f32⟩
  | 7 => ⟨S2x128x128x57x57, .f32⟩
  | 8 => ⟨S2x128x128x57x57, .f32⟩
  | 9 => ⟨S128x128x1x1, .f32⟩
  | 10 => ⟨S128x128, .f32⟩
  | 11 => ⟨S1x128x128x1x1, .f32⟩
  | 12 => ⟨S2x128x128x57x57, .f32⟩
  | 13 => ⟨S2x128x128x57x57, .f32⟩
  | 14 => ⟨S2x128x128x57x57, .f32⟩
  | 15 => ⟨S2x128x128x57x57, .f32⟩
  | 16 => ⟨S128x128x1x1, .f32⟩
  | 17 => ⟨S128x128, .f32⟩
  | 18 => ⟨S1x128x128x1x1, .f32⟩
  | 19 => ⟨S2x128x128x57x57, .f32⟩
  | 20 => ⟨S2x128x128x57x57, .f32⟩
  | 21 => ⟨S2x128x128x57x57, .f32⟩
  | 22 => ⟨S2x128x128x57x57, .f32⟩
  | 23 => ⟨S128x128x1x1, .f32⟩
  | 24 => ⟨S128x128, .f32⟩
  | 25 => ⟨S1x128x128x1x1, .f32⟩
  | 26 => ⟨S2x128x128x57x57, .f32⟩
  | 27 => ⟨S2x128x128x57x57, .f32⟩
  | 28 => ⟨S2x128x128x57x57, .f32⟩
  | 29 => ⟨S2x128x128x57x57, .f32⟩
  | 30 => ⟨S128x128x1x1, .f32⟩
  | 31 => ⟨S128x128, .f32⟩
  | 32 => ⟨S1x128x128x1x1, .f32⟩
  | 33 => ⟨S2x128x128x57x57, .f32⟩
  | 34 => ⟨S2x128x128x57x57, .f32⟩
  | 35 => ⟨S2x128x128x57x57, .f32⟩
  | 36 => ⟨S2x128x128x57x57, .f32⟩
  | 37 => ⟨S128x128x1x1, .f32⟩
  | 38 => ⟨S128x128, .f32⟩
  | 39 => ⟨S1x128x128x1x1, .f32⟩
  | 40 => ⟨S2x128x128x57x57, .f32⟩
  | 41 => ⟨S2x128x128x57x57, .f32⟩
  | 42 => ⟨S2x128x128x57x57, .f32⟩
  | 43 => ⟨S2x128x128x57x57, .f32⟩
  | 44 => ⟨S128x128x1x1, .f32⟩
  | 45 => ⟨S128x128, .f32⟩
  | 46 => ⟨S1x128x128x1x1, .f32⟩
  | 47 => ⟨S2x128x128x57x57, .f32⟩
  | 48 => ⟨S2x128x128x57x57, .f32⟩
  | 49 => ⟨S2x128x128x57x57, .f32⟩
  | 50 => ⟨S2x128x128x57x57, .f32⟩
  | 51 => ⟨S128x128x1x1, .f32⟩
  | 52 => ⟨S128x128, .f32⟩
  | 53 => ⟨S1x128x128x1x1, .f32⟩
  | 54 => ⟨S2x128x128x57x57, .f32⟩
  | 55 => ⟨S2x128x128x57x57, .f32⟩
  | 56 => ⟨S2x128x128x57x57, .f32⟩
  | 57 => ⟨S2x128x128x57x57, .f32⟩
  | 58 => ⟨S128x128x1x1, .f32⟩
  | 59 => ⟨S128x128, .f32⟩
  | 60 => ⟨S1x128x128x1x1, .f32⟩
  | 61 => ⟨S2x128x128x57x57, .f32⟩
  | 62 => ⟨S2x128x128x57x57, .f32⟩
  | 63 => ⟨S2x128x128x57x57, .f32⟩
  | 64 => ⟨S2x128x128x57x57, .f32⟩
  | 65 => ⟨S128x128x1x1, .f32⟩
  | 66 => ⟨S128x128, .f32⟩
  | 67 => ⟨S1x128x128x1x1, .f32⟩
  | 68 => ⟨S2x128x128x57x57, .f32⟩
  | 69 => ⟨S2x128x128x57x57, .f32⟩
  | 70 => ⟨S2x128x128x57x57, .f32⟩
  | 71 => ⟨S2x128x128x57x57, .f32⟩
  | 72 => ⟨S128x128x1x1, .f32⟩
  | 73 => ⟨S128x128, .f32⟩
  | 74 => ⟨S1x128x128x1x1, .f32⟩
  | 75 => ⟨S2x128x128x57x57, .f32⟩
  | 76 => ⟨S2x128x128x57x57, .f32⟩
  | 77 => ⟨S2x128x128x57x57, .f32⟩
  | 78 => ⟨S2x128x128x57x57, .f32⟩
  | 79 => ⟨S128x128x1x1, .f32⟩
  | 80 => ⟨S128x128, .f32⟩
  | 81 => ⟨S1x128x128x1x1, .f32⟩
  | 82 => ⟨S2x128x128x57x57, .f32⟩
  | 83 => ⟨S2x128x128x57x57, .f32⟩
  | 84 => ⟨S2x128x128x57x57, .f32⟩
  | 85 => ⟨S2x128x128x56x56, .f32⟩
  | 86 => ⟨S128, .f32⟩
  | 87 => ⟨S1x128x1x1, .f32⟩
  | 88 => ⟨S_, .f32⟩
  | 89 => ⟨S2x128x56x56, .f32⟩
  | 90 => ⟨S2x128x56x56, .f32⟩
  | 91 => ⟨S2x128x56x56, .f32⟩
  | 92 => ⟨S1x128x1x1, .f32⟩
  | 93 => ⟨S2x128x56x56, .f32⟩
  | 94 => ⟨S2x128x56x56, .f32⟩
  | 95 => ⟨S2x128x56x56, .f32⟩
  | _ => ⟨S2x128x56x56, .f32⟩

abbrev hbmTy (i : Nat) : BufTy := match i / 128 with
  | 0 => hbmTy0_0 i
  | 1 => hbmTy0_1 i
  | 2 => hbmTy0_2 i
  | _ => ⟨S2x128x56x56, .f32⟩

abbrev bufTy : (tb : Table) → Fin (tcTables nBuf tb) → BufTy
  | .hbm, ⟨i, _⟩ => hbmTy i
  | _, _ => ⟨S2x128x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_1 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_2 : Ref sig .tc := ⟨.hbm, 84, rfl⟩
abbrev main_call1_v0 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_3 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_v273 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_v294 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_v304 : Ref sig .tc := ⟨.hbm, 339, rfl⟩
abbrev main_v305 : Ref sig .tc := ⟨.hbm, 340, rfl⟩
abbrev main_v306 : Ref sig .tc := ⟨.hbm, 341, rfl⟩
abbrev main_v307 : Ref sig .tc := ⟨.hbm, 342, rfl⟩
abbrev main_v308 : Ref sig .tc := ⟨.hbm, 343, rfl⟩
abbrev main_cst_4 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩

abbrev nD : Nat := 1
abbrev τ : Topo := Topo.v7x

variable {F : FTy → Type} [FloatOps F]
-- ==== Proof.Scalars.lean ====
/- The scalar facts of the divisive normalisation, over the extended reals: a power as the exponential of a
   multiple of a logarithm, the two spellings of a Gaussian filter's sample, the sampling coordinates, and
   the float constants both programs print. -/
module

public import Idealize.ShloMosaic.PureOps.Ideal
public import Idealize.ShloMosaic.Lib.IdealHost

@[expose] public section

noncomputable section

open Idealize.ShloMosaic

namespace Cert.Divisive

/-! ## Powers -/

/-- For a nonnegative base and a nonnegative exponent, the infinite ones included, the exponential of the
    exponent times the base's logarithm is the power. -/
theorem exp_mul_log {x y : EReal} (hx : 0 ≤ x) (hy : 0 ≤ y) : Ideal.exp (y * Ideal.log x) = Ideal.pow x y := by
  induction x with
  | bot => exact absurd hx (by simp)
  | top =>
    rcases eq_or_lt_of_le hy with h | h
    · subst h
      rw [zero_mul, ← EReal.coe_zero, Ideal.exp_coe, Real.exp_zero, Ideal.pow_top]
      simp
    · rw [Ideal.log_top, EReal.mul_top_of_pos h, Ideal.exp_top, Ideal.pow_top, if_pos h]
  | coe r =>
    have hr : 0 ≤ r := by exact_mod_cast hx
    rw [Ideal.log_coe]
    induction y with
    | bot => exact absurd hy (by simp)
    | top =>
      rw [Ideal.pow_coe_top, if_neg (not_lt.mpr hr)]
      split_ifs with h0 h1 h2 h2 h3
      · exact absurd h1 (by linarith)
      · exact absurd h2 (by linarith)
      · rw [EReal.top_mul_bot, Ideal.exp_bot]
      · rw [EReal.top_mul_coe_of_pos (Real.log_pos h2), Ideal.exp_top]
      · subst h3
        rw [Real.log_one, EReal.coe_zero, mul_zero, ← EReal.coe_zero, Ideal.exp_coe, Real.exp_zero, EReal.coe_one]
      · rw [EReal.top_mul_coe_of_neg (Real.log_neg (not_le.mp h0) (lt_of_le_of_ne (not_lt.mp h2) h3)), Ideal.exp_bot]
    | coe s =>
      have hs : 0 ≤ s := by exact_mod_cast hy
      rw [Ideal.pow_coe_coe]
      split_ifs with h0
      · obtain rfl : r = 0 := le_antisymm h0 hr
        rcases eq_or_lt_of_le hs with h | h
        · subst h
          rw [EReal.coe_zero, zero_mul, ← EReal.coe_zero, Ideal.exp_coe]
          simp
        · rw [EReal.coe_mul_bot_of_pos h, Ideal.exp_bot]
          exact_mod_cast (Real.zero_rpow h.ne').symm
      · rw [← EReal.coe_mul, Ideal.exp_coe]
        exact congrArg _ (by rw [mul_comm]; exact (Real.rpow_def_of_pos (not_le.mp h0) s).symm)

/-- Zero to a positive power is zero. -/
theorem pow_zero_left {y : EReal} (hy : 0 < y) : Ideal.pow 0 y = 0 := by
  rw [← EReal.coe_zero] at *
  induction y with
  | bot => exact absurd hy (by simp)
  | top => rw [Ideal.pow_coe_top]; simp
  | coe s =>
    rw [Ideal.pow_coe_coe]
    exact congrArg _ (Real.zero_rpow (by exact_mod_cast hy.ne'))

/-! ## The constants -/

/-- The pattern of minus three. -/
theorem ofBits_neg_three : Ideal.ofBits .f32 0xC0400000#32 = ((-3 : ℝ) : EReal) := by
  simp [Ideal.ofBits, Ideal.ieee, -EReal.coe_mul, -EReal.coe_neg]; norm_num

/-- The pattern of minus one half. -/
theorem ofBits_neg_half : Ideal.ofBits .f32 0xBF000000#32 = ((-(1 / 2) : ℝ) : EReal) := by
  simp [Ideal.ofBits, Ideal.ieee, -EReal.coe_mul, -EReal.coe_neg]; norm_num

/-- The pattern of five. -/
theorem ofBits_five : Ideal.ofBits .f32 0x40A00000#32 = ((5 : ℝ) : EReal) := by
  simp [Ideal.ofBits, Ideal.ieee, -EReal.coe_mul, -EReal.coe_neg]; norm_num

/-! ## The sampling coordinates -/

/-- Sample `k`'s coordinate: six samples from minus three to three. -/
def coord (k : Fin 6) : ℝ := -3 + 6 / 5 * (k : ℕ)

/-- No sample lies at the origin of its axis. -/
theorem coord_ne_zero (k : Fin 6) : coord k ≠ 0 := by
  unfold coord; fin_cases k <;> norm_num

/-! ## A filter's sample -/

/-- The amplitude of a filter: the weight over the filter's area, the constant being the float nearest to twice
    the circle's number. -/
def amplitude (p s a : EReal) : EReal := Ideal.div a (Ideal.ofBits .f32 0x40C90FDB#32 * p * s)

/-- A filter's sample at the coordinates `X`, `Y`: a Gaussian of the widths `p` and `s` along axes turned by
    `th`, each squared coordinate divided by the squared width. -/
def gauss (X Y th p s a : EReal) : EReal :=
  amplitude p s a * Ideal.exp (((-(1 / 2) : ℝ) : EReal) *
    (Ideal.div ((X * Ideal.cos th + Y * Ideal.sin th) * (X * Ideal.cos th + Y * Ideal.sin th)) (p * p)
      + Ideal.div ((-X * Ideal.sin th + Y * Ideal.cos th) * (-X * Ideal.sin th + Y * Ideal.cos th)) (s * s)))

/-- The same sample with the squared widths' reciprocals as factors. -/
def gaussRec (X Y th p s a : EReal) : EReal :=
  amplitude p s a * Ideal.exp (((-(1 / 2) : ℝ) : EReal) *
    ((X * Ideal.cos th + Y * Ideal.sin th) * (X * Ideal.cos th + Y * Ideal.sin th) * Ideal.div 1 (p * p)
      + (Y * Ideal.cos th - X * Ideal.sin th) * (Y * Ideal.cos th - X * Ideal.sin th) * Ideal.div 1 (s * s)))

/-- An exponential is positive unless its exponent is minus infinity. -/
theorem exp_pos {z : EReal} (h : z ≠ ⊥) : 0 < Ideal.exp z := by
  induction z with
  | bot => exact absurd rfl h
  | top => simp
  | coe r => rw [Ideal.exp_coe]; exact_mod_cast Real.exp_pos r

/-- A negative real times what is not plus infinity is not minus infinity. -/
theorem neg_mul_ne_bot {r : ℝ} (hr : r < 0) {v : EReal} (hv : v ≠ ⊤) : (r : EReal) * v ≠ ⊥ := by
  induction v with
  | bot => rw [EReal.coe_mul_bot_of_neg hr]; simp
  | top => exact absurd rfl hv
  | coe q => rw [← EReal.coe_mul]; exact EReal.coe_ne_bot _

/-- A quotient by zero absorbs a positive factor. -/
theorem div_zero_mul (a : EReal) {e : EReal} (he : 0 < e) : Ideal.div a 0 * e = Ideal.div a 0 := by
  rw [Ideal.div, if_pos rfl]
  split_ifs
  · exact EReal.top_mul_of_pos he
  · exact EReal.bot_mul_of_pos he

/-- The square of what is not zero is positive. -/
theorem mul_self_pos {A : EReal} (h : A ≠ 0) : 0 < A * A := by
  induction A with
  | bot => simp
  | top => simp
  | coe r => rw [← EReal.coe_mul]; exact_mod_cast _root_.mul_self_pos.mpr (by exact_mod_cast h)

/-- Where one width is zero the amplitude is an infinity, and both spellings of the exponent give the same
    sample: a positive square divided by zero is plus infinity both ways, and at a zero square the two
    exponentials are positive. `v` is the other width's term. -/
theorem zero_width (a A v : EReal) (hv : A = 0 → v ≠ ⊤) :
    Ideal.div a 0 * Ideal.exp (((-(1 / 2) : ℝ) : EReal) * (A * A * Ideal.div 1 0 + v))
      = Ideal.div a 0 * Ideal.exp (((-(1 / 2) : ℝ) : EReal) * (Ideal.div (A * A) 0 + v)) := by
  by_cases hA : A = 0
  · have h := hv hA
    subst hA
    rw [zero_mul, zero_mul, zero_add]
    rw [div_zero_mul _ (exp_pos (neg_mul_ne_bot (by norm_num) h))]
    refine (div_zero_mul _ (exp_pos (neg_mul_ne_bot (by norm_num) ?_))).symm
    rw [Ideal.div, if_pos rfl, if_neg (lt_irrefl _), EReal.bot_add]
    exact bot_ne_top
  · have h := mul_self_pos hA
    rw [show Ideal.div 1 0 = (⊤ : EReal) by rw [Ideal.div, if_pos rfl, if_pos one_pos],
      show Ideal.div (A * A) 0 = (⊤ : EReal) by rw [Ideal.div, if_pos rfl, if_pos h], EReal.mul_top_of_pos h]

/-- A real square divided by a nonzero square is not plus infinity. -/
theorem real_mul_ne_top (r : ℝ) {s : EReal} (hs : s ≠ 0) : (r : EReal) * Ideal.div 1 (s * s) ≠ ⊤ := by
  induction s with
  | bot => simp [Ideal.div]
  | top => simp [Ideal.div]
  | coe q =>
    have hq : q * q ≠ 0 := mul_self_ne_zero.mpr (by exact_mod_cast hs)
    rw [← EReal.coe_mul, Ideal.div_coe hq, one_mul, ← EReal.coe_mul]
    exact EReal.coe_ne_top _

/-- At nonzero real coordinates a turned coordinate is zero only for a real angle. -/
theorem angle_real {X Y : ℝ} (hX : X ≠ 0) (hY : Y ≠ 0) {th : EReal}
    (h : (X : EReal) * Ideal.cos th + Y * Ideal.sin th = 0 ∨ (Y : EReal) * Ideal.cos th - X * Ideal.sin th = 0) :
    ∃ r : ℝ, th = r := by
  have key : ∀ b : ℝ, b ≠ 0 → (b : EReal) * ⊥ = ⊥ ∨ (b : EReal) * ⊥ = ⊤ := fun b hb => by
    rcases lt_or_gt_of_ne hb with h | h
    · exact .inr (EReal.coe_mul_bot_of_neg h)
    · exact .inl (EReal.coe_mul_bot_of_pos h)
  induction th with
  | coe r => exact ⟨r, rfl⟩
  | bot =>
    exfalso
    rw [show Ideal.cos ⊥ = (⊥ : EReal) from rfl, show Ideal.sin ⊥ = (⊥ : EReal) from rfl] at h
    rcases key X hX with e | e <;> rcases key Y hY with f | f <;> rw [e, f] at h <;> simp at h
  | top =>
    exfalso
    rw [show Ideal.cos ⊤ = (⊥ : EReal) from rfl, show Ideal.sin ⊤ = (⊥ : EReal) from rfl] at h
    rcases key X hX with e | e <;> rcases key Y hY with f | f <;> rw [e, f] at h <;> simp at h

/-- A turned coordinate at a real angle is a real, and so is its square. -/
theorem turned_real (X Y r : ℝ) :
    ∃ q : ℝ, ((X : EReal) * Ideal.cos r + Y * Ideal.sin r) * ((X : EReal) * Ideal.cos r + Y * Ideal.sin r) = q := by
  refine ⟨(X * Real.cos r + Y * Real.sin r) * (X * Real.cos r + Y * Real.sin r), ?_⟩
  rw [show Ideal.cos r = ((Real.cos r : ℝ) : EReal) from rfl, show Ideal.sin r = ((Real.sin r : ℝ) : EReal) from rfl]
  norm_cast

/-- The other turned coordinate likewise. -/
theorem turned_real' (X Y r : ℝ) :
    ∃ q : ℝ, ((Y : EReal) * Ideal.cos r - X * Ideal.sin r) * ((Y : EReal) * Ideal.cos r - X * Ideal.sin r) = q := by
  refine ⟨(Y * Real.cos r - X * Real.sin r) * (Y * Real.cos r - X * Real.sin r), ?_⟩
  rw [show Ideal.cos r = ((Real.cos r : ℝ) : EReal) from rfl, show Ideal.sin r = ((Real.sin r : ℝ) : EReal) from rfl]
  norm_cast

/-- The two spellings of a filter's sample agree at nonzero real coordinates, unless both widths are zero. -/
theorem gaussRec_eq {X Y : ℝ} (hX : X ≠ 0) (hY : Y ≠ 0) {th p s a : EReal} (h : p ≠ 0 ∨ s ≠ 0) :
    gaussRec X Y th p s a = gauss X Y th p s a := by
  unfold gaussRec gauss
  rw [show -(X : EReal) * Ideal.sin th + Y * Ideal.cos th = Y * Ideal.cos th - X * Ideal.sin th by
    rw [EReal.neg_mul, add_comm, sub_eq_add_neg]]
  by_cases hp : p = 0
  · have hs : s ≠ 0 := h.resolve_left (absurd hp)
    subst hp
    rw [Ideal.mul_one_div (mul_ne_zero hs hs)]
    unfold amplitude
    rw [mul_zero, zero_mul, mul_zero]
    refine zero_width _ _ _ fun hA => ?_
    obtain ⟨r, rfl⟩ := angle_real hX hY (.inl hA)
    obtain ⟨q, hq⟩ := turned_real' X Y r
    rw [hq, ← Ideal.mul_one_div (mul_ne_zero hs hs)]
    exact real_mul_ne_top q hs
  · rw [Ideal.mul_one_div (mul_ne_zero hp hp)]
    by_cases hs : s = 0
    · subst hs
      unfold amplitude
      rw [mul_zero, mul_zero, add_comm, add_comm (Ideal.div _ (p * p))]
      refine zero_width _ _ _ fun hA => ?_
      obtain ⟨r, rfl⟩ := angle_real hX hY (.inr hA)
      obtain ⟨q, hq⟩ := turned_real X Y r
      rw [hq, ← Ideal.mul_one_div (mul_ne_zero hp hp)]
      exact real_mul_ne_top q hp
    · rw [Ideal.mul_one_div (mul_ne_zero hs hs)]

end Cert.Divisive

end
-- ==== Proof.Formula.lean ====
/- The divisive normalisation as a formula in its argument arrays, in two spellings: over the image, which
   is the mathematics, and over one channel's padded image laid out row after row, which is what one grid step
   computes. The second is shown to be the first. -/
module

public import proofs.«01_k».proof.Proof.Scalars

@[expose] public section

noncomputable section

open Idealize.ShloMosaic

namespace Cert.Divisive

/-- Thirty-six terms added one after another, the rows of a six by six table in order, are the double sum. -/
theorem sum_taps (f : Fin 6 → Fin 6 → EReal) :
    f 0 0 + f 0 1 + f 0 2 + f 0 3 + f 0 4 + f 0 5 + f 1 0 + f 1 1 + f 1 2 + f 1 3 + f 1 4 + f 1 5
      + f 2 0 + f 2 1 + f 2 2 + f 2 3 + f 2 4 + f 2 5 + f 3 0 + f 3 1 + f 3 2 + f 3 3 + f 3 4 + f 3 5
      + f 4 0 + f 4 1 + f 4 2 + f 4 3 + f 4 4 + f 4 5 + f 5 0 + f 5 1 + f 5 2 + f 5 3 + f 5 4 + f 5 5
      = ∑ dy, ∑ dx, f dy dx := by
  simp only [Fin.sum_univ_six, ← add_assoc]

/-- The image under tap `(dy, dx)` of the filter laid at `(h, w)`: zero outside the image. -/
def pixel (x : Fin 56 → Fin 56 → EReal) (h w : Fin 56) (dy dx : Fin 6) : EReal :=
  if e : (2 ≤ (h : ℕ) + dy ∧ (h : ℕ) + dy - 2 < 56) ∧ 2 ≤ (w : ℕ) + dx ∧ (w : ℕ) + dx - 2 < 56 then
    x ⟨h + dy - 2, e.1.2⟩ ⟨w + dx - 2, e.2.2⟩
  else 0

/-- The normalised response at one pixel of one channel: the channel's input to its exponent, over the
    channel's offset to that exponent plus, over every channel and every tap, the input to the pair's exponent
    weighted by the pair's filter. The arrays of the pairs are read at the channel's row. -/
def response (x : Fin 128 → Fin 56 → Fin 56 → EReal) (th p s a nI : Fin 128 → Fin 128 → EReal)
    (nU bias : Fin 128 → EReal) (i : Fin 128) (h w : Fin 56) : EReal :=
  Ideal.div (Ideal.pow (x i h w) (nU i))
    (Ideal.pow (bias i) (nU i) + ∑ u, ∑ dy, ∑ dx, Ideal.pow (pixel (x i) h w dy dx) (nI i u)
      * gauss (coord dy) (coord dx) (th i u) (p i u) (s i u) (a i u))

/-- One channel's image within its border: sixty-four rows of sixty-four, four rows of zeros above the image and
    four below, eight columns of zeros after it. Position `k` counts along the rows. -/
def bordered (x : Fin 56 → Fin 56 → EReal) (k : Fin 4096) : EReal :=
  if e : (4 ≤ (k : ℕ) / 64 ∧ (k : ℕ) / 64 - 4 < 56) ∧ (k : ℕ) % 64 < 56 then
    x ⟨(k : ℕ) / 64 - 4, e.1.2⟩ ⟨(k : ℕ) % 64, e.2⟩
  else 0

/-- One grid step's result at position `f` of a row of sixty-four columns: powers as exponentials of scaled
    logarithms, and each tap a shift of the row laid out whole. -/
def lane (X : Fin 4096 → EReal) (th p s a n : Fin 128 → EReal) (nU bias : EReal) (f : Fin 3584) : EReal :=
  Ideal.div (Ideal.exp (nU * Ideal.log (X ⟨256 + f, by omega⟩)))
    (Ideal.exp (nU * Ideal.log bias) + ∑ dy : Fin 6, ∑ dx : Fin 6, ∑ u,
      gaussRec (coord dy) (coord dx) (th u) (p u) (s u) (a u)
        * Ideal.exp (n u * Ideal.log (X ⟨126 + 64 * dy + dx + f, by omega⟩)))

/-- A shift of the bordered image reads the pixel under the tap: a shift past an end of a row lands in the columns of
    zeros. -/
theorem bordered_tap (x : Fin 56 → Fin 56 → EReal) (h w : Fin 56) (dy dx : Fin 6)
    (hk : 126 + 64 * (dy : ℕ) + dx + (64 * h + w) < 4096) :
    bordered x ⟨126 + 64 * dy + dx + (64 * h + w), hk⟩ = pixel x h w dy dx := by
  have hh := h.isLt
  have hw := w.isLt
  have hy := dy.isLt
  have hx := dx.isLt
  unfold bordered pixel
  by_cases hc : 2 ≤ (w : ℕ) + dx
  · have e₁ : (126 + 64 * (dy : ℕ) + dx + (64 * h + w)) / 64 = h + dy + 2 := by omega
    have e₂ : (126 + 64 * (dy : ℕ) + dx + (64 * h + w)) % 64 = w + dx - 2 := by omega
    simp only [e₁, e₂]
    by_cases hb : (2 ≤ (h : ℕ) + dy ∧ (h : ℕ) + dy - 2 < 56) ∧ 2 ≤ (w : ℕ) + dx ∧ (w : ℕ) + dx - 2 < 56
    · rw [dif_pos hb, dif_pos (by omega)]
      congr 2
    · rw [dif_neg hb, dif_neg (by omega)]
  · rw [dif_neg (by simp only []; omega), dif_neg (by omega)]

/-- The centre of the bordered image is the image. -/
theorem bordered_centre (x : Fin 56 → Fin 56 → EReal) (h w : Fin 56) (hk : 256 + (64 * (h : ℕ) + w) < 4096) :
    bordered x ⟨256 + (64 * h + w), hk⟩ = x h w := by
  have hh := h.isLt
  have hw := w.isLt
  have e₁ : (256 + (64 * (h : ℕ) + w)) / 64 = h + 4 := by omega
  have e₂ : (256 + (64 * (h : ℕ) + w)) % 64 = w := by omega
  unfold bordered
  simp only [e₁, e₂]
  rw [dif_pos (by omega)]
  rfl

/-- A pixel under a tap is nonnegative where the image is. -/
theorem pixel_nonneg {x : Fin 56 → Fin 56 → EReal} (hx : ∀ h w, 0 ≤ x h w) (h w : Fin 56) (dy dx : Fin 6) :
    0 ≤ pixel x h w dy dx := by
  unfold pixel
  split_ifs
  · exact hx _ _
  · exact le_rfl

/-- On the stated domain one grid step's row, read at row `h`, column `w`, is the response there. -/
theorem lane_eq (x : Fin 128 → Fin 56 → Fin 56 → EReal) (th p s a nI : Fin 128 → Fin 128 → EReal)
    (nU bias : Fin 128 → EReal) (i : Fin 128) (h w : Fin 56)
    (hx : ∀ h w, 0 ≤ x i h w) (hps : ∀ u, p i u ≠ 0 ∨ s i u ≠ 0) (hn : ∀ u, 0 < nI i u) (hU : 0 ≤ nU i)
    (hb : 0 ≤ bias i) (hf : 64 * (h : ℕ) + w < 3584) :
    lane (bordered (x i)) (th i) (p i) (s i) (a i) (nI i) (nU i) (bias i) ⟨64 * h + w, hf⟩
      = response x th p s a nI nU bias i h w := by
  unfold lane response
  rw [bordered_centre, exp_mul_log (hx h w) hU, exp_mul_log hb hU]
  congr 2
  rw [Finset.sum_comm (s := (Finset.univ : Finset (Fin 128)))]
  refine Finset.sum_congr rfl fun dy _ => ?_
  rw [Finset.sum_comm (s := (Finset.univ : Finset (Fin 128)))]
  refine Finset.sum_congr rfl fun dx _ => Finset.sum_congr rfl fun u _ => ?_
  rw [gaussRec_eq (coord_ne_zero dy) (coord_ne_zero dx) (hps u), bordered_tap,
    exp_mul_log (pixel_nonneg hx h w dy dx) (hn u).le, mul_comm]

end Cert.Divisive

end
-- ==== Proof.Body.lean ====
/- One grid step of the kernel: each batch's stored row, at every position, is the formula `Cert.Divisive.lane` in the
   step's blocks. -/
module

public import proofs.«01_k».proof.Defs
public import proofs.«01_k».proof.Proof.Formula
public import proofs.«01_k».proof.Proof.Gen.KernelIdeal.Frame
public import Idealize.ShloMosaic.Lib.Pointwise
public import Idealize.ShloMosaic.Lib.Pipeline.ValueKit

@[expose] public section

noncomputable section

open Idealize.ShloMosaic Idealize.ShloMosaic.TcCoe Idealize.SL.Sem

namespace Cert.KernelIdeal.Block

open Cert.KernelIdeal Cert.KernelIdeal.Gen Cert.Divisive

/-- The tap of row `dy`, column `dx`, in the order the thirty-six taps are counted. -/
abbrev tap (dy dx : Fin 6) : Fin 36 := ⟨6 * dy + dx, by omega⟩

/-- The named step is six fifths. -/
theorem step_eq (w : BitVec 32) : Named.named (F := Ideal) (φ := .f32) κ "step" w = ((6 / 5 : ℝ) : EReal) :=
  IdealRules.named_const.ideal_named_scalar _ _ _ _ rfl

/-- Minus three plus six fifths of a sample's number is the sample's coordinate. -/
theorem coord_word (k : Fin 6) :
    ((-3 : ℝ) : EReal) + ((6 / 5 : ℝ) : EReal) * FloatOps.sitofp (F := Ideal) .f32 (BitVec.ofNat 32 k) = ((coord k : ℝ) : EReal) := by
  have h : (BitVec.ofNat 32 (k : ℕ)).toInt = (k : ℕ) := by revert k; decide
  rw [show FloatOps.sitofp (F := Ideal) .f32 (BitVec.ofNat 32 (k : ℕ)) = (((BitVec.ofNat 32 (k : ℕ)).toInt : ℝ) : EReal) from rfl, h]
  unfold coord
  push_cast
  rfl

/-- A tap's first coordinate is its row's sample. -/
theorem first_coord (dy dx : Fin 6) : k0_pay2 (F := Ideal) (ix2 (tap dy dx) 0) = ((coord dy : ℝ) : EReal) := by
  pointwise [k0_pay2]
  rw [step_eq, ofBits_neg_three]
  refine (congrArg (fun z : BitVec 32 => ((-3 : ℝ) : EReal) + ((6 / 5 : ℝ) : EReal) * FloatOps.sitofp (F := Ideal) .f32 z)
    (?_ : _ = BitVec.ofNat 32 dy)).trans ?_
  · revert dy dx; decide +kernel
  · exact coord_word dy

/-- A tap's second coordinate is its column's sample. -/
theorem second_coord (dy dx : Fin 6) :
    k0_pay6 (F := Ideal) k0_pay3 k0_pay4 k0_pay5 (ix2 (tap dy dx) 0) = ((coord dx : ℝ) : EReal) := by
  pointwise [k0_pay6, k0_pay3, k0_pay4, k0_pay5]
  rw [step_eq, ofBits_neg_three]
  refine (congrArg (fun z : BitVec 32 => ((-3 : ℝ) : EReal) + ((6 / 5 : ℝ) : EReal) * FloatOps.sitofp (F := Ideal) .f32 z)
    (?_ : _ = BitVec.ofNat 32 dx)).trans ?_
  · revert dy dx; decide +kernel
  · exact coord_word dx

/-- The step's table of filters: tap `(dy, dx)` of channel `u` is that filter's sample, in the spelling with the
    reciprocals as factors. -/
theorem filters (x0 : Vec Ideal S2x1x1x4096 .f32) (x1 x2 x3 x4 : Vec Ideal S1x1x128 .f32) (x5 : Vec Ideal S1x128x1 .f32)
    (x6 x7 : Vec Ideal S1x1x1 .f32) (dy dx : Fin 6) (u : Fin 128) :
    k0_pay40 (F := Ideal) x0 x1 x2 x3 x4 x5 x6 x7 (ix2 (tap dy dx) u)
      = gaussRec (coord dy) (coord dx) (x1 (ix3 0 0 u)) (x2 (ix3 0 0 u)) (x3 (ix3 0 0 u)) (x4 (ix3 0 0 u)) := by
  unfold k0_pay40 k0_pay39 k0_pay38 k0_pay37 k0_pay36 k0_pay35 k0_pay34 k0_pay33 k0_pay32 k0_pay31
  pointwise [k0_pay17, k0_pay12, k0_pay13, k0_pay14, k0_pay15, k0_pay16, k0_pay8, k0_pay9, k0_pay10, k0_pay11, k0_pay7]
  rw [first_coord, second_coord, ofBits_neg_half]
  rfl

/-- The step's product: filters against powers, summed over the channels. -/
theorem product (g : FVec Ideal S36x128 .f32) (x5 : Vec Ideal S1x128x1 .f32) (X : Vec Ideal S1x1x1x4096 .f32)
    (t : Fin 36) (k : Fin 4096) :
    k0_pay29 (F := Ideal) g (k0_pay18 x5) X (ix2 t k)
      = ∑ u, g (ix2 t u) * Ideal.exp (x5 (ix3 0 u 0) * Ideal.log (X (ix4 0 0 0 k))) := by
  pointwise [k0_pay29, k0_pay28, k0_pay18]

/-- The second batch's stored row in the product's entries. -/
theorem second_row (x6 x7 : Vec Ideal S1x1x1 .f32) (X : Vec Ideal S1x1x1x4096 .f32) (g : FVec Ideal S36x128 .f32)
   (n : FVec Ideal S128x1 .f32) (f : Fin 3584) :
    k0_pay1 (F := Ideal) (k0_pay19 x6) (k0_pay20 x6 x7) (k0_pay28 X) (k0_pay29 g n X) (k0_pay30 g n X) (ix4 0 0 0 f)
      = Ideal.div (Ideal.exp (x6 (ix3 0 0 0) * Ideal.log (X (ix4 0 0 0 ⟨256 + f, by omega⟩))))
        (Ideal.exp (x6 (ix3 0 0 0) * Ideal.log (x7 (ix3 0 0 0)))
          + ∑ dy : Fin 6, ∑ dx : Fin 6, k0_pay29 g n X (ix2 (tap dy dx) ⟨126 + 64 * dy + dx + f, by omega⟩)) := by
  rw [← sum_taps]
  pointwise [k0_pay1, k0_pay19, k0_pay20, k0_pay28, k0_pay30]
  rfl

/-- The first batch's stored row is the same function of its operands. -/
theorem first_row (x6 x7 : Vec Ideal S1x1x1 .f32) (x5 : Vec Ideal S1x128x1 .f32) (X : Vec Ideal S1x1x1x4096 .f32) (v74 v85 v86 : FVec Ideal S36x128 .f32)
   (v80 v84 : FVec Ideal S1x128 .f32) :
    k0_pay27 (F := Ideal) (k0_pay24 (k0_pay20 x6 x7) (k0_pay22 v74 v80 v84 v85 v86 x5 X) (k0_pay23 v74 v80 v84 v85 v86 x5 X))
      (k0_pay25 (k0_pay21 X)) (k0_pay26 (k0_pay19 x6))
    = k0_pay1 (F := Ideal) (k0_pay19 x6) (k0_pay20 x6 x7) (k0_pay28 X) (k0_pay29 (k0_pay17 v74 v80 v84 v85 v86) (k0_pay18 x5) X)
      (k0_pay30 (k0_pay17 v74 v80 v84 v85 v86) (k0_pay18 x5) X) := rfl

/-- A stored row, from the row of the image loaded for it: the formula at the step's blocks. -/
theorem stored (x0 : Vec Ideal S2x1x1x4096 .f32) (x1 x2 x3 x4 : Vec Ideal S1x1x128 .f32) (x5 : Vec Ideal S1x128x1 .f32)
    (x6 x7 : Vec Ideal S1x1x1 .f32) (X : Vec Ideal S1x1x1x4096 .f32) (f : Fin 3584) :
    k0_pay1 (F := Ideal) (k0_pay19 (View.ld x6 r0_2)) (k0_pay20 (View.ld x6 r0_2) (View.ld x7 r0_2)) (k0_pay28 X)
      (k0_pay29 (k0_pay40 x0 x1 x2 x3 x4 x5 x6 x7) (k0_pay41 x0 x1 x2 x3 x4 x5 x6 x7) X)
      (k0_pay30 (k0_pay40 x0 x1 x2 x3 x4 x5 x6 x7) (k0_pay41 x0 x1 x2 x3 x4 x5 x6 x7) X) (ix4 0 0 0 f)
    = lane (fun k => X (ix4 0 0 0 k)) (fun u => x1 (ix3 0 0 u)) (fun u => x2 (ix3 0 0 u)) (fun u => x3 (ix3 0 0 u))
        (fun u => x4 (ix3 0 0 u)) (fun u => x5 (ix3 0 u 0)) (x6 (ix3 0 0 0)) (x7 (ix3 0 0 0)) f := by
  rw [second_row]
  unfold lane k0_pay41
  simp only [product, filters]
  pointwise []

/-- An index of a stored row is its position in the row. -/
theorem row_index (z : S1x1x1x3584.Idx) : ∃ f : Fin 3584, z = ix4 0 0 0 f := by
  idx_vars z
  exact ⟨z3, by rw [Subsingleton.elim z0 0, Subsingleton.elim z1 0, Subsingleton.elim z2 0]⟩

/-- What one grid step leaves in its output block: batch `b`'s row is the formula at that batch's row of the image block. -/
theorem block (x0 : Vec Ideal S2x1x1x4096 .f32) (x1 x2 x3 x4 : Vec Ideal S1x1x128 .f32) (x5 : Vec Ideal S1x128x1 .f32)
    (x6 x7 : Vec Ideal S1x1x1 .f32) :
    out0_8 (F := Ideal) x0 x1 x2 x3 x4 x5 x6 x7 = fun y => lane (fun k => x0 (ix4 (y 0) 0 0 k)) (fun u => x1 (ix3 0 0 u))
      (fun u => x2 (ix3 0 0 u)) (fun u => x3 (ix3 0 0 u)) (fun u => x4 (ix3 0 0 u)) (fun u => x5 (ix3 0 u 0)) (x6 (ix3 0 0 0))
      (x7 (ix3 0 0 0)) (y 3) := by
  funext y
  unfold out0_8
  rw [first_row]
  refine View.canon_apply_of_pieces (Val := Elt Ideal) (fun y : S2x1x1x3584.Idx => lane (fun k => x0 (ix4 (y 0) 0 0 k)) (fun u => x1 (ix3 0 0 u))
      (fun u => x2 (ix3 0 0 u)) (fun u => x3 (ix3 0 0 u)) (fun u => x4 (ix3 0 0 u)) (fun u => x5 (ix3 0 u 0)) (x6 (ix3 0 0 0))
      (x7 (ix3 0 0 0)) (y 3)) _ ?_ _ (cover0_8 _ _ y)
  intro p hp
  rcases List.mem_cons.mp hp with rfl | hp
  · intro z
    obtain ⟨f, rfl⟩ : ∃ f : Fin 3584, z = ix4 0 0 0 f := row_index z
    refine (stored x0 x1 x2 x3 x4 x5 x6 x7 (View.ld x0 r0_5) f).trans ?_
    rw [show r0_6.emb (ix4 0 0 0 f) 0 = (1 : Fin 2) from rfl,
      show r0_6.emb (ix4 0 0 0 f) 3 = f from Fin.ext (by simp [Rect.emb, Rect.unit])]
    pointwise []
  · obtain rfl := List.mem_singleton.mp hp
    intro z
    obtain ⟨f, rfl⟩ : ∃ f : Fin 3584, z = ix4 0 0 0 f := row_index z
    refine (stored x0 x1 x2 x3 x4 x5 x6 x7 (View.ld x0 r0_3) f).trans ?_
    rw [show r0_4.emb (ix4 0 0 0 f) 0 = (0 : Fin 2) from rfl,
      show r0_4.emb (ix4 0 0 0 f) 3 = f from Fin.ext (by simp [Rect.emb, Rect.unit])]
    pointwise []

end Cert.KernelIdeal.Block
end
-- ==== Proof.Final.lean ====
/- The kernel's result array: what the grid leaves in the output, from each step's block; what the reshaped and bordered
   operands are in the arguments; and the run, ending with the formula at every index. -/
module

public import proofs.«01_k».proof.Defs
public import proofs.«01_k».proof.Proof.Body
public import Idealize.ShloMosaic.Lib.StableHlo.ReadAt

@[expose] public section

noncomputable section

open Idealize.ShloMosaic Idealize.ShloMosaic.TcCoe Idealize.SL.Sem

namespace Cert.KernelIdeal.Final

open Cert.KernelIdeal Cert.KernelIdeal.Gen Cert.Divisive

variable (m : (ℓ : Loc nD τ sig) → Buf (Elt Ideal) ℓ) (c : Dev nD)

/-! ## The blocks: channel `t`'s part of every array -/

theorem index0 : ∀ t, win0_0.index t = ![0, (t : ℕ), 0, 0] := by decide +kernel
theorem index1 : ∀ t, win0_1.index t = ![(t : ℕ), 0, 0] := by decide +kernel
theorem index2 : ∀ t, win0_2.index t = ![(t : ℕ), 0, 0] := by decide +kernel
theorem index3 : ∀ t, win0_3.index t = ![(t : ℕ), 0, 0] := by decide +kernel
theorem index4 : ∀ t, win0_4.index t = ![(t : ℕ), 0, 0] := by decide +kernel
theorem index5 : ∀ t, win0_5.index t = ![(t : ℕ), 0, 0] := by decide +kernel
theorem index6 : ∀ t, win0_6.index t = ![(t : ℕ), 0, 0] := by decide +kernel
theorem index7 : ∀ t, win0_7.index t = ![(t : ℕ), 0, 0] := by decide +kernel
theorem index8 : ∀ t, win0_8.index t = ![0, (t : ℕ), 0, 0] := by decide +kernel

/-- The image block at point `t` is channel `t` of the bordered image, both batches. -/
theorem emb0 (t : Fin cfg0.grid.N) (b : Fin 2) (k : Fin 4096) :
    (win0_0.blk t).view.emb (ix4 b 0 0 k) = (ix4 b (t : Fin 128) 0 k : S2x128x1x4096.Idx) := by
  funext a
  apply Fin.ext
  fin_cases a <;> blk_simp [index0] <;> simp

/-- The operands' blocks at point `t` are row `t`. -/
theorem emb1 (t : Fin cfg0.grid.N) (u : Fin 128) :
    (win0_1.blk t).view.emb (ix3 0 0 u) = (ix3 (t : Fin 128) 0 u : S128x1x128.Idx) := by
  funext a
  apply Fin.ext
  fin_cases a <;> blk_simp [index1] <;> simp

theorem emb2 (t : Fin cfg0.grid.N) (u : Fin 128) :
    (win0_2.blk t).view.emb (ix3 0 0 u) = (ix3 (t : Fin 128) 0 u : S128x1x128.Idx) := by
  funext a
  apply Fin.ext
  fin_cases a <;> blk_simp [index2] <;> simp

theorem emb3 (t : Fin cfg0.grid.N) (u : Fin 128) :
    (win0_3.blk t).view.emb (ix3 0 0 u) = (ix3 (t : Fin 128) 0 u : S128x1x128.Idx) := by
  funext a
  apply Fin.ext
  fin_cases a <;> blk_simp [index3] <;> simp

theorem emb4 (t : Fin cfg0.grid.N) (u : Fin 128) :
    (win0_4.blk t).view.emb (ix3 0 0 u) = (ix3 (t : Fin 128) 0 u : S128x1x128.Idx) := by
  funext a
  apply Fin.ext
  fin_cases a <;> blk_simp [index4] <;> simp

theorem emb5 (t : Fin cfg0.grid.N) (u : Fin 128) :
    (win0_5.blk t).view.emb (ix3 0 u 0) = (ix3 (t : Fin 128) u 0 : S128x128x1.Idx) := by
  funext a
  apply Fin.ext
  fin_cases a <;> blk_simp [index5] <;> simp

theorem emb6 (t : Fin cfg0.grid.N) :
    (win0_6.blk t).view.emb (ix3 0 0 0) = (ix3 (t : Fin 128) 0 0 : S128x1x1.Idx) := by
  funext a
  apply Fin.ext
  fin_cases a <;> blk_simp [index6] <;> simp

theorem emb7 (t : Fin cfg0.grid.N) :
    (win0_7.blk t).view.emb (ix3 0 0 0) = (ix3 (t : Fin 128) 0 0 : S128x1x1.Idx) := by
  funext a
  apply Fin.ext
  fin_cases a <;> blk_simp [index7] <;> simp

/-- The output block at point `t` is channel `t` of the output, both batches. -/
theorem emb8 (t : Fin cfg0.grid.N) (b : Fin 2) (k : Fin 3584) :
    (win0_8.blk t).view.emb (ix4 b 0 0 k) = (ix4 b (t : Fin 128) 0 k : S2x128x1x3584.Idx) := by
  funext a
  apply Fin.ext
  fin_cases a <;> blk_simp [index8] <;> simp

/-- An index of an output block is a batch and a position in the row. -/
theorem rows_index (z : S2x1x1x3584.Idx) : ∃ (b : Fin 2) (f : Fin 3584), z = ix4 b 0 0 f := by
  idx_vars z
  exact ⟨z0, z3, by rw [Subsingleton.elim z1 0, Subsingleton.elim z2 0]⟩

/-- The formula at equal operands. -/
theorem lane_congr {X X' : Fin 4096 → EReal} {th th' p p' s s' a a' n n' : Fin 128 → EReal} {U U' b b' : EReal}
    (hX : ∀ k, X k = X' k) (hth : ∀ u, th u = th' u) (hp : ∀ u, p u = p' u) (hs : ∀ u, s u = s' u) (ha : ∀ u, a u = a' u)
    (hn : ∀ u, n u = n' u) (hU : U = U') (hb : b = b') (f : Fin 3584) :
    lane X th p s a n U b f = lane X' th' p' s' a' n' U' b' f := by
  obtain rfl := funext hX
  obtain rfl := funext hth
  obtain rfl := funext hp
  obtain rfl := funext hs
  obtain rfl := funext ha
  obtain rfl := funext hn
  rw [hU, hb]

/-- The output array after the grid: channel `i`'s rows are the formula at channel `i`'s rows of the operands. -/
theorem array : (dats m 0 c).arrAt 8 cfg0.N = fun j : S2x128x1x3584.Idx =>
    lane (fun k => (V m c main_call0_v1 : S2x128x1x4096.Idx → EReal) (ix4 (j 0) (j 1) 0 k))
      (fun u => (V m c main_call0_v2 : S128x1x128.Idx → EReal) (ix3 (j 1) 0 u))
      (fun u => (V m c main_call0_v3 : S128x1x128.Idx → EReal) (ix3 (j 1) 0 u))
      (fun u => (V m c main_call0_v4 : S128x1x128.Idx → EReal) (ix3 (j 1) 0 u))
      (fun u => (V m c main_call0_v5 : S128x1x128.Idx → EReal) (ix3 (j 1) 0 u))
      (fun u => (V m c main_call0_v6 : S128x128x1.Idx → EReal) (ix3 (j 1) u 0))
      ((V m c main_call0_v7 : S128x1x1.Idx → EReal) (ix3 (j 1) 0 0))
      ((V m c main_call0_v8 : S128x1x1.Idx → EReal) (ix3 (j 1) 0 0)) (j 3) := by
  refine (dats m 0 c).arrAt_eq_of_covers 8 _ (by decide +kernel) fun t hf y => ?_
  blk_simp
  rw [after0_8, Block.block]
  blk_simp [iblk, index0, index1, index2, index3, index4, index5, index6, index7, index8]
  obtain ⟨b, f, rfl⟩ : ∃ (b : Fin 2) (f : Fin 3584), y = (ix4 b 0 0 f : S2x1x1x3584.Idx) := rows_index y
  rw [emb8]
  exact lane_congr (fun k => congrArg (V m c main_call0_v1) (emb0 t b k)) (fun u => congrArg (V m c main_call0_v2) (emb1 t u))
    (fun u => congrArg (V m c main_call0_v3) (emb2 t u)) (fun u => congrArg (V m c main_call0_v4) (emb3 t u))
    (fun u => congrArg (V m c main_call0_v5) (emb4 t u)) (fun u => congrArg (V m c main_call0_v6) (emb5 t u))
    (congrArg (V m c main_call0_v7) (emb6 t)) (congrArg (V m c main_call0_v8) (emb7 t)) f

/-! ## The operands in the arguments -/

/-- The bordered image of each batch and channel. -/
theorem operand_x (b : Fin 2) (i : Fin 128) (k : Fin 4096) :
    (V m c main_call0_v1 : S2x128x1x4096.Idx → EReal) (ix4 b i 0 k)
      = bordered (fun h w => (m ((c : Thread nD τ).loc main_arg0) : S2x128x56x56.Idx → EReal) (ix4 b i h w)) k := by
  unfold V V0
  after_reads_at
  have z : FloatOps.sitofp (F := Ideal) .f32 (0#32) = (0 : EReal) := by
    show (((0#32 : BitVec 32).toInt : ℝ) : EReal) = 0
    simp
  rw [z]
  rfl

/-- The pairs' angles, row by row. -/
theorem operand_2 (i u : Fin 128) : (V m c main_call0_v2 : S128x1x128.Idx → EReal) (ix3 i 0 u)
    = (m ((c : Thread nD τ).loc main_arg1) : S128x128.Idx → EReal) (ix2 i u) := by
  unfold V V0
  after_reads_at

/-- The pairs' first widths, row by row. -/
theorem operand_3 (i u : Fin 128) : (V m c main_call0_v3 : S128x1x128.Idx → EReal) (ix3 i 0 u)
    = (m ((c : Thread nD τ).loc main_arg2) : S128x128.Idx → EReal) (ix2 i u) := by
  unfold V V0
  after_reads_at

/-- The pairs' second widths, row by row. -/
theorem operand_4 (i u : Fin 128) : (V m c main_call0_v4 : S128x1x128.Idx → EReal) (ix3 i 0 u)
    = (m ((c : Thread nD τ).loc main_arg3) : S128x128.Idx → EReal) (ix2 i u) := by
  unfold V V0
  after_reads_at

/-- The pairs' weights, row by row. -/
theorem operand_5 (i u : Fin 128) : (V m c main_call0_v5 : S128x1x128.Idx → EReal) (ix3 i 0 u)
    = (m ((c : Thread nD τ).loc main_arg4) : S128x128.Idx → EReal) (ix2 i u) := by
  unfold V V0
  after_reads_at

/-- The pairs' exponents, row by row. -/
theorem operand_6 (i u : Fin 128) : (V m c main_call0_v6 : S128x128x1.Idx → EReal) (ix3 i u 0)
    = (m ((c : Thread nD τ).loc main_arg5) : S128x128.Idx → EReal) (ix2 i u) := by
  unfold V V0
  after_reads_at

/-- The channels' exponents. -/
theorem operand_7 (i : Fin 128) : (V m c main_call0_v7 : S128x1x1.Idx → EReal) (ix3 i 0 0)
    = (m ((c : Thread nD τ).loc main_arg6) : S128.Idx → EReal) (ix1 i) := by
  unfold V V0
  after_reads_at

/-- The channels' offsets. -/
theorem operand_8 (i : Fin 128) : (V m c main_call0_v8 : S128x1x1.Idx → EReal) (ix3 i 0 0)
    = (m ((c : Thread nD τ).loc main_arg7) : S128.Idx → EReal) (ix1 i) := by
  unfold V V0
  after_reads_at

end Cert.KernelIdeal.Final
end
-- ==== Proof.Result.lean ====
/- The kernel's run: it ends with the formula at every index of its result. -/
module

public import proofs.«01_k».proof.Defs
public import proofs.«01_k».proof.Proof.Final

@[expose] public section

noncomputable section

open Idealize.ShloMosaic Idealize.ShloMosaic.TcCoe Idealize.SL.Sem

namespace Cert.KernelIdeal.Final

open Cert.KernelIdeal Cert.KernelIdeal.Gen Cert.Divisive

variable (m : (ℓ : Loc nD τ sig) → Buf (Elt Ideal) ℓ) (c : Dev nD)

/-- No two windows share an array. -/
theorem arrays_distinct : Function.Injective (Pipeline.arrRef spec0) := by decide

/-- The result in the output array: each image row is the first fifty-six of a row's sixty-four positions. -/
theorem tail (b : Fin 2) (i : Fin 128) (h w : Fin 56) :
    (Pipeline.afterTail₀ cfgs (dats m) 0 (V0 m) [hostOps1] c main_v0 : S2x128x56x56.Idx → EReal) (ix4 b i h w)
      = ((dats m 0 c).arrAt 8 cfg0.N : S2x128x1x3584.Idx → EReal) (ix4 b i 0 ⟨64 * h + w, by omega⟩) := by
  unfold Pipeline.afterTail₀
  after_reads_at
  refine (congrFun (Pipeline.withArrays_arr spec0 arrays_distinct c (V0 m c) (fun w => (dats m 0 c).arrAt w (cfgs 0).N) 8) _).trans ?_
  exact congrArg (fun f : Fin 3584 => (dats m 0 c).arrAt 8 cfg0.N (ix4 b i 0 f : S2x128x1x3584.Idx)) (Fin.ext (by simp only []; omega))

/-- The result at an index is the formula at the arguments of the launch. -/
theorem value (b : Fin 2) (i : Fin 128) (h w : Fin 56) :
    (Pipeline.afterTail₀ cfgs (dats m) 0 (V0 m) [hostOps1] c main_v0 : S2x128x56x56.Idx → EReal) (ix4 b i h w)
      = lane (bordered fun h w => (m ((c : Thread nD τ).loc main_arg0) : S2x128x56x56.Idx → EReal) (ix4 b i h w))
        (fun u => (m ((c : Thread nD τ).loc main_arg1) : S128x128.Idx → EReal) (ix2 i u))
        (fun u => (m ((c : Thread nD τ).loc main_arg2) : S128x128.Idx → EReal) (ix2 i u))
        (fun u => (m ((c : Thread nD τ).loc main_arg3) : S128x128.Idx → EReal) (ix2 i u))
        (fun u => (m ((c : Thread nD τ).loc main_arg4) : S128x128.Idx → EReal) (ix2 i u))
        (fun u => (m ((c : Thread nD τ).loc main_arg5) : S128x128.Idx → EReal) (ix2 i u))
        ((m ((c : Thread nD τ).loc main_arg6) : S128.Idx → EReal) (ix1 i))
        ((m ((c : Thread nD τ).loc main_arg7) : S128.Idx → EReal) (ix1 i)) ⟨64 * h + w, by omega⟩ := by
  rw [tail, array]
  exact lane_congr (operand_x m c b i) (operand_2 m c i) (operand_3 m c i) (operand_4 m c i) (operand_5 m c i)
    (operand_6 m c i) (operand_7 m c i) (operand_8 m c i) _

/-- From any memory the kernel ends with its result array at what the region's lines leave, and its arguments as they
    were. -/
theorem run (ρ : Dev nD → PrngReg) : θ_run defs (onTc (τ := τ) (main (F := Ideal))) ⟨m, fun _ => 0, ρ⟩ (fun r => ∀ c : Dev nD,
    r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun _ h c => ⟨(h.1 c).2 main_v0 (Pipeline.mem_restRefs_of main_v0 (by decide) (by decide)), h.2 c⟩)
    (θ_run_and (run_main m ρ) (unchanged m ρ))

end Cert.KernelIdeal.Final
end
-- ==== Proof.Reference.lean ====
/- The reference's formula: its generated stages read at an index, down to the arguments. -/
module

public import proofs.«01_k».proof.Proof.Gen.ReferenceIdeal.Read
public import proofs.«01_k».proof.Proof.Formula
public import Idealize.ShloMosaic.Lib.Pointwise

@[expose] public section

noncomputable section

open Idealize.ShloMosaic Idealize.ShloMosaic.TcCoe Idealize.SL.Sem

namespace Cert.ReferenceIdeal.Formula

open Cert.ReferenceIdeal Cert.ReferenceIdeal.Gen Cert.ReferenceIdeal.Read Cert.Divisive

/-- An integer read as a float is that integer. -/
theorem sitofp_eq {w : ℕ} (b : BitVec w) : FloatOps.sitofp (F := Ideal) .f32 b = ((b.toInt : ℝ) : EReal) := rfl

/-- The six points of the filter's grid along one axis: evenly spaced from minus three to three. -/
theorem points (k : Fin 6) : val_main_v0 (F := Ideal) (ix1 k) = ((coord k : ℝ) : EReal) := by
  pointwise [
    val_main_v0, val_main_call0_v16, val_main_call0_v15, val_main_call0_v14, val_main_call0_v13,
    val_main_call0_v12, val_main_call0_v11, val_main_call0_v10, val_main_call0_v9, val_main_call0_v8,
    val_main_call0_v7, val_main_call0_v6, val_main_call0_v5, val_main_call0_v4, val_main_call0_v1,
    val_main_call0_v0, val_main_call0_cst_0, val_main_call0_cst_1, val_main_c, val_main_c_0]
  have e : (BitVec.ofNat 32 (k : ℕ)).toInt = (k : ℕ) := by fin_cases k <;> rfl
  simp only [sitofp_eq, ofBits_five, e, show (4294967293#32).toInt = -3 from rfl, show (3#32).toInt = 3 from rfl]
  rw [Ideal.div_coe (by norm_num : (5 : ℝ) ≠ 0), ← EReal.coe_one]
  unfold coord
  split_ifs with h
  · simp only [← EReal.coe_mul, ← EReal.coe_sub, ← EReal.coe_add]
    congr 1
    push_cast
    ring
  · have hk : (k : ℕ) = 5 := by omega
    rw [hk]
    norm_num

variable (x0 : (⟨S2x128x56x56, .f32⟩ : BufTy).Contents (Elt Ideal))
variable (x1 x2 x3 x4 x5 : (⟨S128x128, .f32⟩ : BufTy).Contents (Elt Ideal))
variable (x6 x7 : (⟨S128, .f32⟩ : BufTy).Contents (Elt Ideal))

/-- The filter of a pair of channels at a tap is the rotated Gaussian at the tap's point. -/
theorem filter (i u : Fin 128) (y x : Fin 6) :
    val_main_v46 (F := Ideal) x1 x2 x3 x4 (ix4 i u y x)
      = gauss (coord y) (coord x) (x1 (ix2 i u)) (x2 (ix2 i u)) (x3 (ix2 i u)) (x4 (ix2 i u)) := by
  pointwise [
    val_main_v46, val_main_v45, val_main_v44, val_main_v43, val_main_v42, val_main_v41, val_main_v40,
    val_main_v39, val_main_v38, val_main_v37, val_main_v36, val_main_v35, val_main_v34, val_main_v33,
    val_main_v32, val_main_v31, val_main_v30, val_main_v29, val_main_v28, val_main_v27, val_main_v26,
    val_main_v25, val_main_v24, val_main_v23, val_main_v22, val_main_v21, val_main_v20, val_main_v19,
    val_main_v18, val_main_v17, val_main_v16, val_main_v15, val_main_v14, val_main_v13, val_main_v12,
    val_main_v11, val_main_v10, val_main_v9, val_main_v8, val_main_v7, val_main_v6, val_main_v5, val_main_v4,
    val_main_v3, val_main_v2, val_main_v1, val_main_cst, val_main_cst_1]
  rw [points, points, ofBits_neg_half]
  rfl

/-- The powers of the image within a border of three zeros. -/
theorem padded (b : Fin 2) (i u : Fin 128) (y x : Fin 62) :
    val_main_v52 (F := Ideal) x0 x5 (ix5 b i u y x)
      = if h : (3 ≤ (y : ℕ) ∧ (y : ℕ) - 3 < 56) ∧ 3 ≤ (x : ℕ) ∧ (x : ℕ) - 3 < 56 then
          Ideal.pow (x0 (ix4 b i ⟨y - 3, h.1.2⟩ ⟨x - 3, h.2.2⟩)) (x5 (ix2 i u))
        else 0 := by
  pointwise [
    val_main_v52, val_main_v51, val_main_v50, val_main_v49, val_main_v48, val_main_v47, val_main_call1_v0,
    val_main_c_2]
  simp only [sitofp_eq]
  simp

/-- Under a tap the padded powers are the power of the pixel there: a positive power of zero is zero. -/
theorem padded_tap (b : Fin 2) (i u : Fin 128) (h w : Fin 56) (dy dx : Fin 6) (hn : 0 < x5 (ix2 i u))
    (hy : (dy : ℕ) + (1 + h) < 62) (hx : (dx : ℕ) + (1 + w) < 62) :
    val_main_v52 (F := Ideal) x0 x5 (ix5 b i u ⟨dy + (1 + h), hy⟩ ⟨dx + (1 + w), hx⟩)
      = Ideal.pow (pixel (fun h w => x0 (ix4 b i h w)) h w dy dx) (x5 (ix2 i u)) := by
  rw [padded]
  unfold pixel
  have e₁ : (dy : ℕ) + (1 + h) - 3 = h + dy - 2 := by omega
  have e₂ : (dx : ℕ) + (1 + w) - 3 = w + dx - 2 := by omega
  simp only [e₁, e₂]
  by_cases e : (2 ≤ (h : ℕ) + dy ∧ (h : ℕ) + dy - 2 < 56) ∧ 2 ≤ (w : ℕ) + dx ∧ (w : ℕ) + dx - 2 < 56
  · rw [dif_pos e, dif_pos (by omega)]
  · rw [dif_neg e, dif_neg (by omega), pow_zero_left hn]

/-- The sum of shifted products: each tap's padded powers weighted by the tap's filter. -/
theorem weighted (b : Fin 2) (i u : Fin 128) (y x : Fin 57) :
    val_main_v305 (F := Ideal) x0 x1 x2 x3 x4 x5 (ix5 b i u y x)
      = ∑ dy : Fin 6, ∑ dx : Fin 6, val_main_v52 (F := Ideal) x0 x5 (ix5 b i u ⟨dy + y, by omega⟩ ⟨dx + x, by omega⟩)
          * val_main_v46 (F := Ideal) x1 x2 x3 x4 (ix4 i u dy dx) := by
  rw [← sum_taps]
  pointwise [
    val_main_v53, val_main_v54, val_main_v55, val_main_v56, val_main_v57, val_main_v58, val_main_cst_3,
    val_main_v59, val_main_v60, val_main_v61, val_main_v62, val_main_v63, val_main_v64, val_main_v65,
    val_main_v66, val_main_v67, val_main_v68, val_main_v69, val_main_v70, val_main_v71, val_main_v72,
    val_main_v73, val_main_v74, val_main_v75, val_main_v76, val_main_v77, val_main_v78, val_main_v79,
    val_main_v80, val_main_v81, val_main_v82, val_main_v83, val_main_v84, val_main_v85, val_main_v86,
    val_main_v87, val_main_v88, val_main_v89, val_main_v90, val_main_v91, val_main_v92, val_main_v93,
    val_main_v94, val_main_v95, val_main_v96, val_main_v97, val_main_v98, val_main_v99, val_main_v100,
    val_main_v101, val_main_v102, val_main_v103, val_main_v104, val_main_v105, val_main_v106, val_main_v107,
    val_main_v108, val_main_v109, val_main_v110, val_main_v111, val_main_v112, val_main_v113, val_main_v114,
    val_main_v115, val_main_v116, val_main_v117, val_main_v118, val_main_v119, val_main_v120, val_main_v121,
    val_main_v122, val_main_v123, val_main_v124, val_main_v125, val_main_v126, val_main_v127, val_main_v128,
    val_main_v129, val_main_v130, val_main_v131, val_main_v132, val_main_v133, val_main_v134, val_main_v135,
    val_main_v136, val_main_v137, val_main_v138, val_main_v139, val_main_v140, val_main_v141, val_main_v142,
    val_main_v143, val_main_v144, val_main_v145, val_main_v146, val_main_v147, val_main_v148, val_main_v149,
    val_main_v150, val_main_v151, val_main_v152, val_main_v153, val_main_v154, val_main_v155, val_main_v156,
    val_main_v157, val_main_v158, val_main_v159, val_main_v160, val_main_v161, val_main_v162, val_main_v163,
    val_main_v164, val_main_v165, val_main_v166, val_main_v167, val_main_v168, val_main_v169, val_main_v170,
    val_main_v171, val_main_v172, val_main_v173, val_main_v174, val_main_v175, val_main_v176, val_main_v177,
    val_main_v178, val_main_v179, val_main_v180, val_main_v181, val_main_v182, val_main_v183, val_main_v184,
    val_main_v185, val_main_v186, val_main_v187, val_main_v188, val_main_v189, val_main_v190, val_main_v191,
    val_main_v192, val_main_v193, val_main_v194, val_main_v195, val_main_v196, val_main_v197, val_main_v198,
    val_main_v199, val_main_v200, val_main_v201, val_main_v202, val_main_v203, val_main_v204, val_main_v205,
    val_main_v206, val_main_v207, val_main_v208, val_main_v209, val_main_v210, val_main_v211, val_main_v212,
    val_main_v213, val_main_v214, val_main_v215, val_main_v216, val_main_v217, val_main_v218, val_main_v219,
    val_main_v220, val_main_v221, val_main_v222, val_main_v223, val_main_v224, val_main_v225, val_main_v226,
    val_main_v227, val_main_v228, val_main_v229, val_main_v230, val_main_v231, val_main_v232, val_main_v233,
    val_main_v234, val_main_v235, val_main_v236, val_main_v237, val_main_v238, val_main_v239, val_main_v240,
    val_main_v241, val_main_v242, val_main_v243, val_main_v244, val_main_v245, val_main_v246, val_main_v247,
    val_main_v248, val_main_v249, val_main_v250, val_main_v251, val_main_v252, val_main_v253, val_main_v254,
    val_main_v255, val_main_v256, val_main_v257, val_main_v258, val_main_v259, val_main_v260, val_main_v261,
    val_main_v262, val_main_v263, val_main_v264, val_main_v265, val_main_v266, val_main_v267, val_main_v268,
    val_main_v269, val_main_v270, val_main_v271, val_main_v272, val_main_v273, val_main_v274, val_main_v275,
    val_main_v276, val_main_v277, val_main_v278, val_main_v279, val_main_v280, val_main_v281, val_main_v282,
    val_main_v283, val_main_v284, val_main_v285, val_main_v286, val_main_v287, val_main_v288, val_main_v289,
    val_main_v290, val_main_v291, val_main_v292, val_main_v293, val_main_v294, val_main_v295, val_main_v296,
    val_main_v297, val_main_v298, val_main_v299, val_main_v300, val_main_v301, val_main_v302, val_main_v303,
    val_main_v304, val_main_v305]

/-- The quotient at an index, over the sum of the weighted powers of every channel. -/
theorem quotient (b : Fin 2) (i : Fin 128) (h w : Fin 56) :
    val_main_v315 (F := Ideal) x0 x1 x2 x3 x4 x5 x6 x7 (ix4 b i h w)
      = Ideal.div (Ideal.pow (x0 (ix4 b i h w)) (x6 (ix1 i)))
          (Ideal.pow (x7 (ix1 i)) (x6 (ix1 i))
            + ∑ u : Fin 128, val_main_v305 (F := Ideal) x0 x1 x2 x3 x4 x5 (ix5 b i u ⟨1 + h, by omega⟩ ⟨1 + w, by omega⟩)) := by
  pointwise [
    val_main_v315, val_main_v314, val_main_v313, val_main_v312, val_main_v311, val_main_v310, val_main_v309,
    val_main_cst_4, val_main_v308, val_main_v307, val_main_v306]

/-- Where every pair's exponent is positive the reference's result at an index is the response there. -/
theorem value (hn : ∀ i u, 0 < x5 (ix2 i u)) (b : Fin 2) (i : Fin 128) (h w : Fin 56) :
    val_main_v315 (F := Ideal) x0 x1 x2 x3 x4 x5 x6 x7 (ix4 b i h w)
      = response (fun i h w => x0 (ix4 b i h w)) (fun i u => x1 (ix2 i u)) (fun i u => x2 (ix2 i u))
          (fun i u => x3 (ix2 i u)) (fun i u => x4 (ix2 i u)) (fun i u => x5 (ix2 i u)) (fun i => x6 (ix1 i))
          (fun i => x7 (ix1 i)) i h w := by
  rw [quotient]
  unfold response
  congr 2
  refine Finset.sum_congr rfl fun u _ => ?_
  rw [weighted]
  refine Finset.sum_congr rfl fun dy _ => Finset.sum_congr rfl fun dx _ => ?_
  rw [padded_tap x0 x5 b i u h w dy dx (hn i u) _ _, filter]

end Cert.ReferenceIdeal.Formula
end
-- ==== Proof.Equation.lean ====
/- The claims, one theorem each: the frames, the named constant, and the equation between the kernel and the
   reference. -/
module

public import proofs.«01_k».proof.Defs
public import proofs.«01_k».proof.Proof.Result
public import proofs.«01_k».proof.Proof.Reference
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_domain
public import Idealize.ShloMosaic.Adequacy
public import Idealize.ShloMosaic.Init

@[expose] public section

noncomputable section

open Idealize.ShloMosaic Idealize.ShloMosaic.TcCoe Idealize.SL.Sem

namespace Cert.Equation

open Cert.Divisive

/-! ## The domain -/

/-- A truth value stored in one bit reads one exactly where it holds. -/
theorem ofBool_one (b : Bool) : (BitVec.ofBool b = 1#1) = (b = true) := by cases b <;> decide

/-- The bitwise or of two stored truth values stores their disjunction. -/
theorem ofBool_or (a b : Bool) : (BitVec.ofBool a ||| BitVec.ofBool b) = BitVec.ofBool (a || b) := by
  cases a <;> cases b <;> rfl

section Domain

open Cert.Pre_domain Cert.Pre_domain.Gen

variable (x0 : FVec Ideal S2x128x56x56 .f32) (x1 x2 x3 x4 x5 : FVec Ideal S128x128 .f32) (x6 x7 : FVec Ideal S128 .f32)

/-- The first condition: the input is nonnegative. -/
theorem input_nonneg (h : (fn (F := Ideal) x0 x1 x2 x3 x4 x5 x6 x7).1 = fun _ => 1#1) (j : S2x128x56x56.Idx) : 0 ≤ x0 j := by
  have e := congrFun h j
  simpa [fn, cmpf, broadcastInDim, constant, FloatOps.cmpf, Ideal.cmp, FloatOps.ofBits, ofBool_one] using e

/-- The second condition: no pair has both widths zero. -/
theorem width_ne_zero (h : (fn (F := Ideal) x0 x1 x2 x3 x4 x5 x6 x7).2.1 = fun _ => 1#1) (j : S128x128.Idx) : x2 j ≠ 0 ∨ x3 j ≠ 0 := by
  have e := congrFun h j
  simpa [fn, cmpf, ori, IntOp.ori, ofBool_or, broadcastInDim, constant, FloatOps.cmpf, Ideal.cmp, FloatOps.ofBits, ofBool_one] using e

/-- The third condition: every pair's exponent is positive. -/
theorem exponent_pos (h : (fn (F := Ideal) x0 x1 x2 x3 x4 x5 x6 x7).2.2.1 = fun _ => 1#1) (j : S128x128.Idx) : 0 < x5 j := by
  have e := congrFun h j
  simpa [fn, cmpf, broadcastInDim, constant, FloatOps.cmpf, Ideal.cmp, FloatOps.ofBits, ofBool_one] using e

/-- The fourth condition: every channel's exponent is nonnegative. -/
theorem exponent_nonneg (h : (fn (F := Ideal) x0 x1 x2 x3 x4 x5 x6 x7).2.2.2.1 = fun _ => 1#1) (j : S128.Idx) : 0 ≤ x6 j := by
  have e := congrFun h j
  simpa [fn, cmpf, broadcastInDim, constant, FloatOps.cmpf, Ideal.cmp, FloatOps.ofBits, ofBool_one] using e

/-- The fifth condition: every channel's offset is nonnegative. -/
theorem offset_nonneg (h : (fn (F := Ideal) x0 x1 x2 x3 x4 x5 x6 x7).2.2.2.2 = fun _ => 1#1) (j : S128.Idx) : 0 ≤ x7 j := by
  have e := congrFun h j
  simpa [fn, cmpf, broadcastInDim, constant, FloatOps.cmpf, Ideal.cmp, FloatOps.ofBits, ofBool_one] using e

end Domain

/-! ## The frames and the named constant -/

/-- The kernel, bit by bit, runs to its end, leaves its arguments as they were and every counter at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- The same on the stated domain. -/
theorem frame_ideal_domain : Cert.quiescent_KernelIdeal_pre_domain := fun m ρ _ => Cert.KernelIdeal.Gen.frame m ρ

/-- The reference has no counters; its arguments end unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same on the stated domain. -/
theorem frame_reference_domain : Cert.quiescent_ReferenceIdeal_pre_domain := fun m ρ _ => frame_reference m ρ trivial

/-- The spacing of the filter's grid, six fifths, is what the kernel's constant names. -/
theorem preserves : Cert.preserves_Kernel_KernelIdeal :=
  IdealRules.named_const.statement Cert.KernelIdeal.κ "step" .f32 0x3F99999A#32 ((6 / 5 : ℝ) : EReal) rfl

/-! ## The equation -/

/-- On the stated domain the kernel and the reference end with equal results, the response at every index. -/
theorem algebraic : Cert.algebraic_KernelIdeal_ReferenceIdeal_pre_domain := by
  intro m ρ m' ρ' hpre hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hpre c
  obtain ⟨a0, a1, a2, a3, a4, a5, a6, a7⟩ := hagree c
  refine (Cert.ReferenceIdeal.Read.val_main_v315_eq _).trans ?_
  show Cert.ReferenceIdeal.Read.val_main_v315 (F := Ideal)
    (m' ((c : Thread Cert.ReferenceIdeal.nD Cert.ReferenceIdeal.τ).loc Cert.ReferenceIdeal.main_arg0))
    (m' ((c : Thread Cert.ReferenceIdeal.nD Cert.ReferenceIdeal.τ).loc Cert.ReferenceIdeal.main_arg1))
    (m' ((c : Thread Cert.ReferenceIdeal.nD Cert.ReferenceIdeal.τ).loc Cert.ReferenceIdeal.main_arg2))
    (m' ((c : Thread Cert.ReferenceIdeal.nD Cert.ReferenceIdeal.τ).loc Cert.ReferenceIdeal.main_arg3))
    (m' ((c : Thread Cert.ReferenceIdeal.nD Cert.ReferenceIdeal.τ).loc Cert.ReferenceIdeal.main_arg4))
    (m' ((c : Thread Cert.ReferenceIdeal.nD Cert.ReferenceIdeal.τ).loc Cert.ReferenceIdeal.main_arg5))
    (m' ((c : Thread Cert.ReferenceIdeal.nD Cert.ReferenceIdeal.τ).loc Cert.ReferenceIdeal.main_arg6))
    (m' ((c : Thread Cert.ReferenceIdeal.nD Cert.ReferenceIdeal.τ).loc Cert.ReferenceIdeal.main_arg7)) = _
  rw [a0, a1, a2, a3, a4, a5, a6, a7]
  funext j
  have ej : j = ix4 (j 0) (j 1) (j 2) (j 3) := eq_ix4 j
  rw [ej]
  refine (Cert.ReferenceIdeal.Formula.value _ _ _ _ _ _ _ _ (fun i u => exponent_pos _ _ _ _ _ _ _ _ h2 _) _ _ _ _).trans ?_
  refine Eq.trans ?_ (Cert.KernelIdeal.Final.value m c _ _ _ _).symm
  exact (lane_eq _ _ _ _ _ _ _ _ _ _ _ (fun h w => input_nonneg _ _ _ _ _ _ _ _ h0 _)
    (fun u => width_ne_zero _ _ _ _ _ _ _ _ h1 _) (fun u => exponent_pos _ _ _ _ _ _ _ _ h2 _)
    (exponent_nonneg _ _ _ _ _ _ _ _ h3 _) (offset_nonneg _ _ _ _ _ _ _ _ h4 _) _).symm

end Cert.Equation

end
-- ==== Proof.lean ====
/- Every claim about this kernel, put together. The frames, the named constant and the equation with the reference
   are proved in Proof/Equation.lean; under it stand the kernel's grid step read at an index (Proof/Body.lean), its
   arrays at launch and at the end (Proof/Final.lean, Proof/Result.lean), the reference read at an index
   (Proof/Reference.lean), the formula both compute (Proof/Formula.lean) and the arithmetic of one pair's filter
   (Proof/Scalars.lean). -/
module

public import proofs.«01_k».proof.Defs
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.Pre_domain
public import Idealize.ShloMosaic.Adequacy
public import Idealize.ShloMosaic.Init

@[expose] public section

noncomputable section

namespace Cert.Proof

/-- Everything claimed: the frames, the named constant, and the kernel's result equal to the reference's. -/
theorem claim : Cert.Claim :=
  ⟨Cert.Kernel.Gen.facts, Cert.KernelIdeal.Gen.facts, Cert.ReferenceIdeal.Gen.facts, Cert.Pre_domain.Gen.facts,
    Equation.frame_kernel, Equation.frame_ideal, Equation.frame_ideal_domain, Equation.frame_reference,
    Equation.frame_reference_domain, Equation.preserves, Equation.algebraic⟩

end Cert.Proof

end
